-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def preserves_Kernel_KernelIdeal : Prop :=
  IdealRules.named_const.Statement Cert.KernelIdeal.κ "inv_seq" .f32 0x39A72F05#32 ((3136⁻¹ : ℝ) : EReal)

def preserves_Reference_ReferenceIdeal : Prop :=
  IdealRules.named_const.Statement Cert.ReferenceIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_v5_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S64x3136x256 : Shape := ⟨3, ![64, 3136, 256]⟩
abbrev S_ : Shape := ⟨0, ![]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1 : Shape := ⟨1, ![1]⟩
abbrev S16x1 : Shape := ⟨2, ![16, 1]⟩
abbrev S1x256 : Shape := ⟨2, ![1, 256]⟩
abbrev S64x256 : Shape := ⟨2, ![64, 256]⟩
abbrev S1x64 : Shape := ⟨2, ![1, 64]⟩
abbrev S64x16 : Shape := ⟨2, ![64, 16]⟩
abbrev S1x3136x256 : Shape := ⟨3, ![1, 3136, 256]⟩
abbrev S64x128 : Shape := ⟨2, ![64, 128]⟩
abbrev S32x256 : Shape := ⟨2, ![32, 256]⟩
abbrev S1x256x256 : Shape := ⟨3, ![1, 256, 256]⟩
abbrev S256x256 : Shape := ⟨2, ![256, 256]⟩
abbrev S1x64x256 : Shape := ⟨3, ![1, 64, 256]⟩
abbrev S16x64 : Shape := ⟨2, ![16, 64]⟩
abbrev S32 : Shape := ⟨1, ![32]⟩
abbrev S32x1 : Shape := ⟨2, ![32, 1]⟩
abbrev S32x128 : Shape := ⟨2, ![32, 128]⟩
abbrev S16x32 : Shape := ⟨2, ![16, 32]⟩
abbrev S1x32 : Shape := ⟨2, ![1, 32]⟩
abbrev S32x32 : Shape := ⟨2, ![32, 32]⟩
abbrev S32x16 : Shape := ⟨2, ![32, 16]⟩
abbrev S1x128 : Shape := ⟨2, ![1, 128]⟩
abbrev S1x16 : Shape := ⟨2, ![1, 16]⟩
abbrev S128 : Shape := ⟨1, ![128]⟩

abbrev nBuf : Space → Nat
  | .hbm => 21
  | .vmem => 20
  | .smem => 1
  | _ => 0

abbrev bufTy : (tb : Table) → Fin (tcTables nBuf tb) → BufTy
  | .hbm, ⟨0, _⟩ => ⟨S64x3136x256, .fp8e4m3⟩
  | .hbm, ⟨1, _⟩ => ⟨S_, .f32⟩
  | .hbm, ⟨2, _⟩ => ⟨S256x16, .fp8e4m3⟩
  | .hbm, ⟨3, _⟩ => ⟨S16, .f32⟩
  | .hbm, ⟨4, _⟩ => ⟨S16, .f32⟩
  | .hbm, ⟨5, _⟩ => ⟨S16x256, .fp8e4m3⟩
  | .hbm, ⟨6, _⟩ => ⟨S256, .f32⟩
  | .hbm, ⟨7, _⟩ => ⟨S256, .f32⟩
  | .hbm, ⟨8, _⟩ => ⟨S1, .f32⟩
  | .hbm, ⟨9, _⟩ => ⟨S16x256, .fp8e4m3⟩
  | .hbm, ⟨10, _⟩ => ⟨S16x1, .f32⟩
  | .hbm, ⟨11, _⟩ => ⟨S16x1, .f32⟩
  | .hbm, ⟨12, _⟩ => ⟨S1x256, .f32⟩
  | .hbm, ⟨13, _⟩ => ⟨S1x256, .f32⟩
  | .hbm, ⟨14, _⟩ => ⟨S64x3136x256, .fp8e4m3⟩
  | .hbm, ⟨15, _⟩ => ⟨S64x256, .f32⟩
  | .hbm, ⟨16, _⟩ => ⟨S64x256, .f32⟩
  | .hbm, ⟨17, _⟩ => ⟨S64x256, .fp8e4m3⟩
  | .hbm, ⟨18, _⟩ => ⟨S1x64, .f32⟩
  | .hbm, ⟨19, _⟩ => ⟨S64x16, .fp8e4m3⟩
  | .hbm, ⟨20, _⟩ => ⟨S1x64, .f32⟩
  | .local _ .vmem, ⟨0, _⟩ => ⟨S1x3136x256, .fp8e4m3⟩
  | .local _ .vmem, ⟨1, _⟩ => ⟨S1x3136x256, .fp8e4m3⟩
  | .local _ .vmem, ⟨2, _⟩ => ⟨S16x256, .fp8e4m3⟩
  | .local _ .vmem, ⟨3, _⟩ => ⟨S16x1, .f32⟩
  | .local _ .vmem, ⟨4, _⟩ => ⟨S16x1, .f32⟩
  | .local _ .vmem, ⟨5, _⟩ => ⟨S16x256, .fp8e4m3⟩
  | .local _ .vmem, ⟨6, _⟩ => ⟨S1x256, .f32⟩
  | .local _ .vmem, ⟨7, _⟩ => ⟨S1x256, .f32⟩
  | .local _ .vmem, ⟨8, _⟩ => ⟨S1x3136x256, .fp8e4m3⟩
  | .local _ .vmem, ⟨9, _⟩ => ⟨S1x3136x256, .fp8e4m3⟩
  | .local _ .vmem, ⟨10, _⟩ => ⟨S64x256, .f32⟩
  | .local _ .vmem, ⟨11, _⟩ => ⟨S64x256, .f32⟩
  | .local _ .vmem, ⟨12, _⟩ => ⟨S64x256, .fp8e4m3⟩
  | .local _ .vmem, ⟨13, _⟩ => ⟨S1x64, .f32⟩
  | .local _ .vmem, ⟨14, _⟩ => ⟨S64x16, .fp8e4m3⟩
  | .local _ .vmem, ⟨15, _⟩ => ⟨S1x64, .f32⟩
  | .local _ .vmem, ⟨16, _⟩ => ⟨S64x256, .f32⟩
  | .local _ .vmem, ⟨17, _⟩ => ⟨S64x128, .f32⟩
  | .local _ .vmem, ⟨18, _⟩ => ⟨S64x16, .f32⟩
  | .local _ .vmem, ⟨19, _⟩ => ⟨S64x128, .f32⟩
  | .local _ .smem, ⟨0, _⟩ => ⟨S1, .f32⟩
  | _, _ => ⟨S64x3136x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v606 : Index := Scalar.indexCast arg0
  let c0_140 : Index := 0#32
  ![v606.toNat, 0]
def k0_off2 (i : grid0.Coords) : Fin 2 → Nat :=
  let arg0 : BitVec 32 := BitVec.ofNat 32 (i 0).val
  let v617 : Index := Scalar.indexCast arg0
  let c0_143 : Index := 0#32
  ![v617.toNat, 0]
def k0_off3 (i : grid0.Coords) : Fin 2 → Nat :=
  let arg0 : BitVec 32 := BitVec.ofNat 32 (i 0).val
  let v623 : Index := Scalar.indexCast arg0
  let c0_144 : Index := 0#32
  ![v623.toNat, 0]
def k0_cond1 (i : grid0.Coords) : BitVec 1 :=
  let arg0 : BitVec 32 := BitVec.ofNat 32 (i 0).val
  let c63_i32 : BitVec 32 := 63#32
  let v1279 : BitVec 1 := Scalar.cmpi .eq arg0 c63_i32
  let v1280 : BitVec 32 := Scalar.extui v1279
  let c0_i32_505 : BitVec 32 := 0#32
  let v1281 : BitVec 1 := Scalar.cmpi .ne v1280 c0_i32_505
  v1281

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3136x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x3136x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x16 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "inv_seq" => some ((3136⁻¹ : ℝ) : EReal)
  | _ => none
-- ==== ReferenceIdeal.lean ====
variable {F : FTy → Type} [FloatOps F] [Named F]
def κ : String → Option EReal := fun
  | "ln_2" => some ((Real.log 2 : ℝ) : EReal)
  | _ => none
-- ==== Reference.lean ====
abbrev S64x3136x256 : Shape := ⟨3, ![64, 3136, 256]⟩
abbrev S_ : Shape := ⟨0, ![]⟩
abbrev S256x16 : Shape := ⟨2, ![256, 16]⟩
abbrev S16 : Shape := ⟨1, ![16]⟩
abbrev S16x256 : Shape := ⟨2, ![16, 256]⟩
abbrev S256 : Shape := ⟨1, ![256]⟩
abbrev S1x1 : Shape := ⟨2, ![1, 1]⟩
abbrev S1x16 : Shape := ⟨2, ![1, 16]⟩
abbrev S1x256 : Shape := ⟨2, ![1, 256]⟩
abbrev S64x256 : Shape := ⟨2, ![64, 256]⟩
abbrev S1x64 : Shape := ⟨2, ![1, 64]⟩
abbrev S64x16 : Shape := ⟨2, ![64, 16]⟩
abbrev S64 : Shape := ⟨1, ![64]⟩
abbrev S64x1 : Shape := ⟨2, ![64, 1]⟩
abbrev S1x1x1 : Shape := ⟨3, ![1, 1, 1]⟩
abbrev S64x1x256 : Shape := ⟨3, ![64, 1, 256]⟩

abbrev nBuf : Space → Nat
  | .hbm => 20
  | .vmem => 15
  | .smem => 0
  | _ => 0

abbrev bufTy : (tb : Table) → Fin (tcTables nBuf tb) → BufTy
  | .hbm, ⟨0, _⟩ => ⟨S64x3136x256, .fp8e4m3⟩
  | .hbm, ⟨1, _⟩ => ⟨S_, .f32⟩
  | .hbm, ⟨2, _⟩ => ⟨S256x16, .fp8e4m3⟩
  | .hbm, ⟨3, _⟩ => ⟨S16, .f32⟩
  | .hbm, ⟨4, _⟩ => ⟨S16, .f32⟩
  | .hbm, ⟨5, _⟩ => ⟨S16x256, .fp8e4m3⟩
  | .hbm, ⟨6, _⟩ => ⟨S256, .f32⟩
  | .hbm, ⟨7, _⟩ => ⟨S256, .f32⟩
  | .hbm, ⟨8, _⟩ => ⟨S1x1, .f32⟩
  | .hbm, ⟨9, _⟩ => ⟨S1x16, .f32⟩
  | .hbm, ⟨10, _⟩ => ⟨S1x16, .f32⟩
  | .hbm, ⟨11, _⟩ => ⟨S1x256, .f32⟩
  | .hbm, ⟨12, _⟩ => ⟨S1x256, .f32⟩
  | .hbm, ⟨13, _⟩ => ⟨S64x3136x256, .fp8e4m3⟩
  | .hbm, ⟨14, _⟩ => ⟨S64x256, .f32⟩
  | .hbm, ⟨15, _⟩ => ⟨S64x256, .f32⟩
  | .hbm, ⟨16, _⟩ => ⟨S64x256, .fp8e4m3⟩
  | .hbm, ⟨17, _⟩ => ⟨S1x64, .f32⟩
  | .hbm, ⟨18, _⟩ => ⟨S64x16, .fp8e4m3⟩
  | .hbm, ⟨19, _⟩ => ⟨S1x64, .f32⟩
  | .local _ .vmem, ⟨0, _⟩ => ⟨S64x3136x256, .fp8e4m3⟩
  | .local _ .vmem, ⟨1, _⟩ => ⟨S1x1, .f32⟩
  | .local _ .vmem, ⟨2, _⟩ => ⟨S256x16, .fp8e4m3⟩
  | .local _ .vmem, ⟨3, _⟩ => ⟨S1x16, .f32⟩
  | .local _ .vmem, ⟨4, _⟩ => ⟨S1x16, .f32⟩
  | .local _ .vmem, ⟨5, _⟩ => ⟨S16x256, .fp8e4m3⟩
  | .local _ .vmem, ⟨6, _⟩ => ⟨S1x256, .f32⟩
  | .local _ .vmem, ⟨7, _⟩ => ⟨S1x256, .f32⟩
  | .local _ .vmem, ⟨8, _⟩ => ⟨S64x3136x256, .fp8e4m3⟩
  | .local _ .vmem, ⟨9, _⟩ => ⟨S64x256, .f32⟩
  | .local _ .vmem, ⟨10, _⟩ => ⟨S64x256, .f32⟩
  | .local _ .vmem, ⟨11, _⟩ => ⟨S64x256, .fp8e4m3⟩
  | .local _ .vmem, ⟨12, _⟩ => ⟨S1x64, .f32⟩
  | .local _ .vmem, ⟨13, _⟩ => ⟨S64x16, .fp8e4m3⟩
  | .local _ .vmem, ⟨14, _⟩ => ⟨S1x64, .f32⟩
  | _, _ => ⟨S64x3136x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S64x3136x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x3136x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernRuns.lean ====
/- For the kernel as it is: what the two runs of the kernel's body share: the branch condition in closed form over the grid, the memrefs the body is
   called with (staging buffers and scratch), and the scratch part of the region's invariant. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3136x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3136x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x256 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x16 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x64 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S64x256 .f32 := Memref.whole cc0_scratch0
abbrev scM0_1 : Memref sig .tc .vmem S64x128 .f32 := Memref.whole cc0_scratch1
abbrev scM0_2 : Memref sig .tc .vmem S64x16 .f32 := Memref.whole cc0_scratch2
abbrev scM0_3 : Memref sig .tc .vmem S64x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KernRunA.lean ====
/- The run of the kernel's body before the last point, for the frame: the inputs stay, everything else ends at some contents. -/
module

public import proofs.«01_k».proof.Proof.KernRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1260000 in
/-- The body's triple IN CASE A (`scf.if` 0 not taken: points 0, 1, … 62: 63 of 64): on whole staging memrefs — the inputs' at their contents,
    the FORGOTTEN outputs' (8, 9, 10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S1 .f32) (harg1 : arg1.IsWhole) (arg2 : Memref sig .tc .vmem S1x3136x256 .fp8e4m3) (harg2 : arg2.IsWhole) (arg3 : Memref sig .tc .vmem S16x256 .fp8e4m3) (harg3 : arg3.IsWhole) (arg4 : Memref sig .tc .vmem S16x1 .f32) (harg4 : arg4.IsWhole) (arg5 : Memref sig .tc .vmem S16x1 .f32) (harg5 : arg5.IsWhole) (arg6 : Memref sig .tc .vmem S16x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1x3136x256 .fp8e4m3) (harg9 : arg9.IsWhole) (arg10 : Memref sig .tc .vmem S64x256 .f32) (harg10 : arg10.IsWhole) (arg11 : Memref sig .tc .vmem S64x256 .f32) (harg11 : arg11.IsWhole) (arg12 : Memref sig .tc .vmem S64x256 .fp8e4m3) (harg12 : arg12.IsWhole) (arg13 : Memref sig .tc .vmem S1x64 .f32) (harg13 : arg13.IsWhole) (arg14 : Memref sig .tc .vmem S64x16 .fp8e4m3) (harg14 : arg14.IsWhole) (arg15 : Memref sig .tc .vmem S1x64 .f32) (harg15 : arg15.IsWhole) (arg16 : Memref sig .tc .vmem S64x256 .f32) (harg16 : arg16.IsWhole) (arg17 : Memref sig .tc .vmem S64x128 .f32) (harg17 : arg17.IsWhole) (arg18 : Memref sig .tc .vmem S64x16 .f32) (harg18 : arg18.IsWhole) (arg19 : Memref sig .tc .vmem S64x128 .f32) (harg19 : arg19.IsWhole) (hc0 : ¬cond0_0 i)
    (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_se_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_se_block_eq_skeleton]; unfold cc0_se_block_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernRunB.lean ====
/- The run of the kernel's body at the last point, for the frame: the inputs stay, everything else ends at some contents. -/
module

public import proofs.«01_k».proof.Proof.KernRunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1316000 in
/-- The body's triple IN CASE B (`scf.if` 0 taken: points 63): on whole staging memrefs — the inputs' at their contents,
    the FORGOTTEN outputs' (8, 9, 10, 11, 12, 13, 14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S1 .f32) (harg1 : arg1.IsWhole) (arg2 : Memref sig .tc .vmem S1x3136x256 .fp8e4m3) (harg2 : arg2.IsWhole) (arg3 : Memref sig .tc .vmem S16x256 .fp8e4m3) (harg3 : arg3.IsWhole) (arg4 : Memref sig .tc .vmem S16x1 .f32) (harg4 : arg4.IsWhole) (arg5 : Memref sig .tc .vmem S16x1 .f32) (harg5 : arg5.IsWhole) (arg6 : Memref sig .tc .vmem S16x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1x3136x256 .fp8e4m3) (harg9 : arg9.IsWhole) (arg10 : Memref sig .tc .vmem S64x256 .f32) (harg10 : arg10.IsWhole) (arg11 : Memref sig .tc .vmem S64x256 .f32) (harg11 : arg11.IsWhole) (arg12 : Memref sig .tc .vmem S64x256 .fp8e4m3) (harg12 : arg12.IsWhole) (arg13 : Memref sig .tc .vmem S1x64 .f32) (harg13 : arg13.IsWhole) (arg14 : Memref sig .tc .vmem S64x16 .fp8e4m3) (harg14 : arg14.IsWhole) (arg15 : Memref sig .tc .vmem S1x64 .f32) (harg15 : arg15.IsWhole) (arg16 : Memref sig .tc .vmem S64x256 .f32) (harg16 : arg16.IsWhole) (arg17 : Memref sig .tc .vmem S64x128 .f32) (harg17 : arg17.IsWhole) (arg18 : Memref sig .tc .vmem S64x16 .f32) (harg18 : arg18.IsWhole) (arg19 : Memref sig .tc .vmem S64x128 .f32) (harg19 : arg19.IsWhole) (hc0 : cond0_0 i)
    (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_se_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_se_block_eq_skeleton]; unfold cc0_se_block_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KernFrame.lean ====
/- The frame of the kernel as it is: the pipeline run with the outputs left unnamed. -/
module

public import proofs.«01_k».proof.Proof.KernRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The pipeline's proof data -/

/-- The output windows this certificate FORGETS (8, 9, 10, 11, 12, 13, 14): nothing reads what the kernel leaves in them, so nothing
    of it is named (Lib/Pipeline/Dat.lean `Dat.toRForget`). -/
def forgets0 : Fin 15 → Bool := fun w => w.val == 8 || w.val == 9 || w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 64 = 63
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  rframe_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Runs.lean ====
/- What the two runs of the kernel's body share: the branch condition in closed form over the grid, the memrefs the body is
   called with (staging buffers and scratch), and the scratch part of the region's invariant. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3136x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3136x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x256 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x16 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x64 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S64x256 .f32 := Memref.whole cc0_scratch0
abbrev scM0_1 : Memref sig .tc .vmem S64x128 .f32 := Memref.whole cc0_scratch1
abbrev scM0_2 : Memref sig .tc .vmem S64x16 .f32 := Memref.whole cc0_scratch2
abbrev scM0_3 : Memref sig .tc .vmem S64x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Body.lean ====
/- What one call of the kernel body computes from the blocks it is handed, as plain functions of the blocks: one definition for
   each intermediate value that the printed body passes between its parts, the tiles of the scaled block it stores,
   and its row of every table. Generic in the floats. -/
module

public import proofs.«01_k».proof.Proof.Runs
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The value `v0` of the printed body. -/
def b_v0 (x0 : Vec F S1 .f32) : Elt F .f32 :=
  View.ld x0 (Rect.unit (s := S1) ![0] S1.size inb_S1_S1_0) (Shape.Idx.first (numel1_S1.symm ▸ Nat.one_pos))

/-- The value `v1` of the printed body. -/
def b_v1  : FVec F S16x256 .bf16 :=
  k0_pay7 (F := F)

/-- The value `v29` of the printed body. -/
def b_v29 (x1 : Vec F S1x3136x256 .fp8e4m3) : FVec F S16x256 .f32 :=
  k0_pay10 (View.ld x1 (Rect.unit (s := S1x3136x256) ![0, 0, 0] S1x256x256.size inb_S1x3136x256_S1x256x256_0_0_0)) (View.ld x1 (Rect.unit (s := S1x3136x256) ![0, 256, 0] S1x256x256.size inb_S1x3136x256_S1x256x256_0_256_0))

/-- The value `v45` of the printed body. -/
def b_v45 (x1 : Vec F S1x3136x256 .fp8e4m3) : FVec F S32x256 .f32 :=
  k0_pay12 (View.ld x1 (Rect.unit (s := S1x3136x256) ![0, 0, 0] S1x256x256.size inb_S1x3136x256_S1x256x256_0_0_0)) (View.ld x1 (Rect.unit (s := S1x3136x256) ![0, 256, 0] S1x256x256.size inb_S1x3136x256_S1x256x256_0_256_0))

/-- The value `v46` of the printed body. -/
def b_v46 (x1 : Vec F S1x3136x256 .fp8e4m3) : FVec F S32x256 .f32 :=
  k0_pay13 (View.ld x1 (Rect.unit (s := S1x3136x256) ![0, 256, 0] S1x256x256.size inb_S1x3136x256_S1x256x256_0_256_0))

/-- The value `v73` of the printed body. -/
def b_v73 (x1 : Vec F S1x3136x256 .fp8e4m3) : FVec F S16x256 .f32 :=
  k0_pay16 (b_v1 (F := F)) (b_v29 x1) (View.ld x1 (Rect.unit (s := S1x3136x256) ![0, 512, 0] S1x256x256.size inb_S1x3136x256_S1x256x256_0_512_0)) (View.ld x1 (Rect.unit (s := S1x3136x256) ![0, 768, 0] S1x256x256.size inb_S1x3136x256_S1x256x256_0_768_0))

/-- The value `v91` of the printed body. -/
def b_v91 (x1 : Vec F S1x3136x256 .fp8e4m3) : FVec F S32x256 .f32 :=
  k0_pay17 (b_v45 x1) (b_v46 x1) (View.ld x1 (Rect.unit (s := S1x3136x256) ![0, 512, 0] S1x256x256.size inb_S1x3136x256_S1x256x256_0_512_0)) (View.ld x1 (Rect.unit (s := S1x3136x256) ![0, 768, 0] S1x256x256.size inb_S1x3136x256_S1x256x256_0_768_0))

/-- The value `v93` of the printed body. -/
def b_v93 (x1 : Vec F S1x3136x256 .fp8e4m3) : FVec F S256x256 .fp8e4m3 :=
  k0_pay18 (View.ld x1 (Rect.unit (s := S1x3136x256) ![0, 1024, 0] S1x256x256.size inb_S1x3136x256_S1x256x256_0_1024_0))

/-- The value `v94` of the printed body. -/
def b_v94 (x1 : Vec F S1x3136x256 .fp8e4m3) : FVec F S16x256 .f32 :=
  k0_pay19 (b_v1 (F := F)) (View.ld x1 (Rect.unit (s := S1x3136x256) ![0, 1024, 0] S1x256x256.size inb_S1x3136x256_S1x256x256_0_1024_0))

/-- The value `v139` of the printed body. -/
def b_v139 (x1 : Vec F S1x3136x256 .fp8e4m3) : FVec F S16x256 .f32 :=
  k0_pay22 (b_v1 (F := F)) (b_v73 x1) (b_v94 x1) (View.ld x1 (Rect.unit (s := S1x3136x256) ![0, 1280, 0] S1x256x256.size inb_S1x3136x256_S1x256x256_0_1280_0)) (View.ld x1 (Rect.unit (s := S1x3136x256) ![0, 1536, 0] S1x256x256.size inb_S1x3136x256_S1x256x256_0_1536_0))

/-- The value `v141` of the printed body. -/
def b_v141 (x1 : Vec F S1x3136x256 .fp8e4m3) : FVec F S256x256 .f32 :=
  k0_pay23 (View.ld x1 (Rect.unit (s := S1x3136x256) ![0, 1536, 0] S1x256x256.size inb_S1x3136x256_S1x256x256_0_1536_0))

/-- The value `v145` of the printed body. -/
def b_v145 (x1 : Vec F S1x3136x256 .fp8e4m3) : FVec F S32x256 .f32 :=
  k0_pay24 (b_v91 x1) (b_v93 x1) (View.ld x1 (Rect.unit (s := S1x3136x256) ![0, 1280, 0] S1x256x256.size inb_S1x3136x256_S1x256x256_0_1280_0)) (View.ld x1 (Rect.unit (s := S1x3136x256) ![0, 1536, 0] S1x256x256.size inb_S1x3136x256_S1x256x256_0_1536_0))

/-- The value `v146` of the printed body. -/
def b_v146 (x1 : Vec F S1x3136x256 .fp8e4m3) : FVec F S32x256 .f32 :=
  k0_pay25 (View.ld x1 (Rect.unit (s := S1x3136x256) ![0, 1536, 0] S1x256x256.size inb_S1x3136x256_S1x256x256_0_1536_0))

/-- The value `v183` of the printed body. -/
def b_v183 (x1 : Vec F S1x3136x256 .fp8e4m3) : FVec F S16x256 .f32 :=
  k0_pay28 (b_v1 (F := F)) (b_v139 x1) (View.ld x1 (Rect.unit (s := S1x3136x256) ![0, 1792, 0] S1x256x256.size inb_S1x3136x256_S1x256x256_0_1792_0)) (View.ld x1 (Rect.unit (s := S1x3136x256) ![0, 2048, 0] S1x256x256.size inb_S1x3136x256_S1x256x256_0_2048_0))

/-- The value `v185` of the printed body. -/
def b_v185 (x1 : Vec F S1x3136x256 .fp8e4m3) : FVec F S256x256 .f32 :=
  k0_pay29 (View.ld x1 (Rect.unit (s := S1x3136x256) ![0, 2048, 0] S1x256x256.size inb_S1x3136x256_S1x256x256_0_2048_0))

/-- The value `v197` of the printed body. -/
def b_v197 (x1 : Vec F S1x3136x256 .fp8e4m3) : FVec F S32x256 .f32 :=
  k0_pay30 (b_v141 x1) (b_v145 x1) (b_v146 x1) (View.ld x1 (Rect.unit (s := S1x3136x256) ![0, 1792, 0] S1x256x256.size inb_S1x3136x256_S1x256x256_0_1792_0)) (View.ld x1 (Rect.unit (s := S1x3136x256) ![0, 2048, 0] S1x256x256.size inb_S1x3136x256_S1x256x256_0_2048_0))

/-- The value `v198` of the printed body. -/
def b_v198 (x1 : Vec F S1x3136x256 .fp8e4m3) : FVec F S32x256 .f32 :=
  k0_pay31 (View.ld x1 (Rect.unit (s := S1x3136x256) ![0, 2048, 0] S1x256x256.size inb_S1x3136x256_S1x256x256_0_2048_0))

/-- The value `v227` of the printed body. -/
def b_v227 (x1 : Vec F S1x3136x256 .fp8e4m3) : FVec F S16x256 .f32 :=
  k0_pay34 (b_v1 (F := F)) (b_v183 x1) (View.ld x1 (Rect.unit (s := S1x3136x256) ![0, 2304, 0] S1x256x256.size inb_S1x3136x256_S1x256x256_0_2304_0)) (View.ld x1 (Rect.unit (s := S1x3136x256) ![0, 2560, 0] S1x256x256.size inb_S1x3136x256_S1x256x256_0_2560_0))

/-- The value `v245` of the printed body. -/
def b_v245 (x1 : Vec F S1x3136x256 .fp8e4m3) : FVec F S32x256 .f32 :=
  k0_pay35 (b_v185 x1) (b_v197 x1) (b_v198 x1) (View.ld x1 (Rect.unit (s := S1x3136x256) ![0, 2304, 0] S1x256x256.size inb_S1x3136x256_S1x256x256_0_2304_0)) (View.ld x1 (Rect.unit (s := S1x3136x256) ![0, 2560, 0] S1x256x256.size inb_S1x3136x256_S1x256x256_0_2560_0))

/-- The value `v247` of the printed body. -/
def b_v247 (x1 : Vec F S1x3136x256 .fp8e4m3) : FVec F S256x256 .fp8e4m3 :=
  k0_pay36 (View.ld x1 (Rect.unit (s := S1x3136x256) ![0, 2816, 0] S1x256x256.size inb_S1x3136x256_S1x256x256_0_2816_0))

/-- The value `v280` of the printed body. -/
def b_v280 (x1 : Vec F S1x3136x256 .fp8e4m3) : FVec F S1x256 .f32 :=
  k0_pay38 (b_v245 x1) (b_v247 x1) (View.ld x1 (Rect.unit (s := S1x3136x256) ![0, 3072, 0] S1x64x256.size inb_S1x3136x256_S1x64x256_0_3072_0))

/-- The value `v286` of the printed body. -/
def b_v286 (x0 : Vec F S1 .f32) (x1 : Vec F S1x3136x256 .fp8e4m3) : FVec F S32x256 .f32 :=
  k0_pay39 (b_v0 x0) (b_v1 (F := F)) (b_v227 x1) (b_v247 x1) (View.ld x1 (Rect.unit (s := S1x3136x256) ![0, 3072, 0] S1x64x256.size inb_S1x3136x256_S1x64x256_0_3072_0))

/-- The value `v294` of the printed body. -/
def b_v294 (x0 : Vec F S1 .f32) (x1 : Vec F S1x3136x256 .fp8e4m3) : FVec F S32x128 .f32 :=
  k0_pay40 (b_v0 x0) (b_v1 (F := F)) (b_v227 x1) (b_v247 x1) (View.ld x1 (Rect.unit (s := S1x3136x256) ![0, 3072, 0] S1x64x256.size inb_S1x3136x256_S1x64x256_0_3072_0))

/-- The value `v295` of the printed body. -/
def b_v295  : IVec S32x128 32 :=
  k0_pay41

/-- The value `c128_i32` of the printed body. -/
def b_c128_i32  : BitVec 32 :=
  128#32

/-- The value `v337` of the printed body. -/
def b_v337 (x0 : Vec F S1 .f32) (x1 : Vec F S1x3136x256 .fp8e4m3) : IVec S32x128 32 :=
  k0_pay42 (b_v294 x0 x1) (b_v295) (b_c128_i32)

/-- The value `v339` of the printed body. -/
def b_v339 (x0 : Vec F S1 .f32) (x1 : Vec F S1x3136x256 .fp8e4m3) : IVec S32x128 32 :=
  k0_pay43 (b_v294 x0 x1) (b_v295) (b_c128_i32)

/-- The value `v342` of the printed body. -/
def b_v342 (x0 : Vec F S1 .f32) (x1 : Vec F S1x3136x256 .fp8e4m3) : FVec F S32x128 .f32 :=
  k0_pay44 (b_v294 x0 x1) (b_v295) (b_c128_i32)

/-- The value `v377` of the printed body. -/
def b_v377 (x0 : Vec F S1 .f32) (x1 : Vec F S1x3136x256 .fp8e4m3) : FVec F S32x128 .f32 :=
  k0_pay46 (b_v294 x0 x1) (b_v337 x0 x1) (b_v339 x0 x1) (b_v342 x0 x1)

/-- The value `v384` of the printed body. -/
def b_v384 (x0 : Vec F S1 .f32) (x1 : Vec F S1x3136x256 .fp8e4m3) : FVec F S32x256 .fp8e4m3 :=
  k0_pay47 (b_v286 x0 x1) (b_v294 x0 x1) (b_v337 x0 x1) (b_v339 x0 x1) (b_v342 x0 x1)

/-- The value `v385` of the printed body. -/
def b_v385 (x2 : Vec F S16x256 .fp8e4m3) : Vec F S16x256 .fp8e4m3 :=
  (View.ld x2 (Rect.unit (s := S16x256) ![0, 0] S16x256.size inb_S16x256_S16x256_0_0))

/-- The value `v399` of the printed body. -/
def b_v399 (x0 : Vec F S1 .f32) (x1 : Vec F S1x3136x256 .fp8e4m3) (x2 : Vec F S16x256 .fp8e4m3) (x3 : Vec F S16x1 .f32) (x4 : Vec F S16x1 .f32) : FVec F S16x32 .f32 :=
  k0_pay48 (b_v377 x0 x1) (b_v384 x0 x1) (b_v385 x2) (View.ld x3 (Rect.unit (s := S16x1) ![0, 0] S16x1.size inb_S16x1_S16x1_0_0)) (View.ld x4 (Rect.unit (s := S16x1) ![0, 0] S16x1.size inb_S16x1_S16x1_0_0))

/-- The value `v404` of the printed body. -/
def b_v404 (x0 : Vec F S1 .f32) (x1 : Vec F S1x3136x256 .fp8e4m3) (x2 : Vec F S16x256 .fp8e4m3) (x3 : Vec F S16x1 .f32) (x4 : Vec F S16x1 .f32) : FVec F S1x32 .f32 :=
  k0_pay49 (b_v377 x0 x1) (b_v384 x0 x1) (b_v385 x2) (View.ld x3 (Rect.unit (s := S16x1) ![0, 0] S16x1.size inb_S16x1_S16x1_0_0)) (View.ld x4 (Rect.unit (s := S16x1) ![0, 0] S16x1.size inb_S16x1_S16x1_0_0))

/-- The value `v426` of the printed body. -/
def b_v426 (x0 : Vec F S1 .f32) (x1 : Vec F S1x3136x256 .fp8e4m3) (x2 : Vec F S16x256 .fp8e4m3) (x3 : Vec F S16x1 .f32) (x4 : Vec F S16x1 .f32) : IVec S1x32 32 :=
  k0_pay50 (b_v377 x0 x1) (b_v384 x0 x1) (b_v385 x2) (View.ld x3 (Rect.unit (s := S16x1) ![0, 0] S16x1.size inb_S16x1_S16x1_0_0)) (View.ld x4 (Rect.unit (s := S16x1) ![0, 0] S16x1.size inb_S16x1_S16x1_0_0))

/-- The value `v428` of the printed body. -/
def b_v428 (x0 : Vec F S1 .f32) (x1 : Vec F S1x3136x256 .fp8e4m3) (x2 : Vec F S16x256 .fp8e4m3) (x3 : Vec F S16x1 .f32) (x4 : Vec F S16x1 .f32) : IVec S1x32 32 :=
  k0_pay51 (b_v377 x0 x1) (b_v384 x0 x1) (b_v385 x2) (View.ld x3 (Rect.unit (s := S16x1) ![0, 0] S16x1.size inb_S16x1_S16x1_0_0)) (View.ld x4 (Rect.unit (s := S16x1) ![0, 0] S16x1.size inb_S16x1_S16x1_0_0))

/-- The value `c23_i32_82` of the printed body. -/
def b_c23_i32_82  : BitVec 32 :=
  23#32

/-- The value `v474` of the printed body. -/
def b_v474 (x0 : Vec F S1 .f32) (x1 : Vec F S1x3136x256 .fp8e4m3) (x2 : Vec F S16x256 .fp8e4m3) (x3 : Vec F S16x1 .f32) (x4 : Vec F S16x1 .f32) : IVec S1x32 32 :=
  k0_pay52 (b_v404 x0 x1 x2 x3 x4) (b_v426 x0 x1 x2 x3 x4) (b_v428 x0 x1 x2 x3 x4) (b_c23_i32_82)

/-- The value `v501` of the printed body. -/
def b_v501 (x0 : Vec F S1 .f32) (x1 : Vec F S1x3136x256 .fp8e4m3) (x2 : Vec F S16x256 .fp8e4m3) (x3 : Vec F S16x1 .f32) (x4 : Vec F S16x1 .f32) : FVec F S32x128 .f32 :=
  k0_pay54 (b_v399 x0 x1 x2 x3 x4) (b_v474 x0 x1 x2 x3 x4)

/-- The value `v503` of the printed body. -/
def b_v503 (x0 : Vec F S1 .f32) (x1 : Vec F S1x3136x256 .fp8e4m3) (x2 : Vec F S16x256 .fp8e4m3) (x3 : Vec F S16x1 .f32) (x4 : Vec F S16x1 .f32) : FVec F S32x16 .fp8e4m3 :=
  k0_pay55 (b_v399 x0 x1 x2 x3 x4) (b_v474 x0 x1 x2 x3 x4)

/-- The value `v519` of the printed body. -/
def b_v519 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S32x256 .f32 :=
  k0_pay56 (b_v399 x0 x1 x2 x3 x4) (b_v474 x0 x1 x2 x3 x4) (View.ld x5 (Rect.unit (s := S16x256) ![0, 0] S16x256.size inb_S16x256_S16x256_0_0)) (View.ld x6 (Rect.unit (s := S1x256) ![0, 0] S1x256.size inb_S1x256_S1x256_0_0)) (View.ld x7 (Rect.unit (s := S1x256) ![0, 0] S1x256.size inb_S1x256_S1x256_0_0))

/-- The value `v524` of the printed body. -/
def b_v524 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S1x256 .f32 :=
  k0_pay57 (b_v519 x0 x1 x2 x3 x4 x5 x6 x7)

/-- The value `v530` of the printed body. -/
def b_v530 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S1x256 .f32 :=
  k0_pay58 (b_v0 x0) (b_v280 x1) (b_v519 x0 x1 x2 x3 x4 x5 x6 x7)

/-- The value `v559` of the printed body. -/
def b_v559 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : IVec S1x256 32 :=
  k0_pay59 (b_v0 x0) (b_v280 x1) (b_v519 x0 x1 x2 x3 x4 x5 x6 x7)

/-- The value `v561` of the printed body. -/
def b_v561 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : IVec S1x256 32 :=
  k0_pay60 (b_v0 x0) (b_v280 x1) (b_v519 x0 x1 x2 x3 x4 x5 x6 x7)

/-- The value `v565` of the printed body. -/
def b_v565 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : IVec S1x256 1 :=
  k0_pay61 (b_v0 x0) (b_v280 x1) (b_v519 x0 x1 x2 x3 x4 x5 x6 x7)

/-- The value `v600` of the printed body. -/
def b_v600 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : IVec S1x256 32 :=
  k0_pay62 (b_v530 x0 x1 x2 x3 x4 x5 x6 x7) (b_v559 x0 x1 x2 x3 x4 x5 x6 x7) (b_v561 x0 x1 x2 x3 x4 x5 x6 x7) (b_v565 x0 x1 x2 x3 x4 x5 x6 x7)

/-- The value `v641` of the printed body. -/
def b_v641 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S1x256 .f32 :=
  k0_pay68 (b_v0 x0) (b_v524 x0 x1 x2 x3 x4 x5 x6 x7) (b_v600 x0 x1 x2 x3 x4 x5 x6 x7)

/-- The value `v651` of the printed body. -/
def b_v651 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .fp8e4m3 :=
  k0_pay69 (b_v0 x0) (b_v524 x0 x1 x2 x3 x4 x5 x6 x7) (b_v600 x0 x1 x2 x3 x4 x5 x6 x7) (View.ld x1 (Rect.unit (s := S1x3136x256) ![0, 0, 0] S1x64x256.size inb_S1x3136x256_S1x64x256_0_0_0))

/-- The value `v685` of the printed body. -/
def b_v685 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay73 (b_v641 x0 x1 x2 x3 x4 x5 x6 x7) (View.ld x1 (Rect.unit (s := S1x3136x256) ![0, 192, 0] S1x64x256.size inb_S1x3136x256_S1x64x256_0_192_0))

/-- The value `cst_173` of the printed body. -/
def b_cst_173  : F .f32 :=
  (Scalar.ofBits .f32 0xC3E00000#32 : F .f32)

/-- The value `v755` of the printed body. -/
def b_v755 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .fp8e4m3 :=
  k0_pay79 (b_v641 x0 x1 x2 x3 x4 x5 x6 x7) (View.ld x1 (Rect.unit (s := S1x3136x256) ![0, 512, 0] S1x64x256.size inb_S1x3136x256_S1x64x256_0_512_0))

/-- The value `v791` of the printed body. -/
def b_v791 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay83 (b_v641 x0 x1 x2 x3 x4 x5 x6 x7) (View.ld x1 (Rect.unit (s := S1x3136x256) ![0, 704, 0] S1x64x256.size inb_S1x3136x256_S1x64x256_0_704_0))

/-- The value `v792` of the printed body. -/
def b_v792  : FVec F S64x256 .f32 :=
  k0_pay84 (F := F)

/-- The value `v826` of the printed body. -/
def b_v826 (x1 : Vec F S1x3136x256 .fp8e4m3) : FVec F S64x256 .f32 :=
  k0_pay88 (View.ld x1 (Rect.unit (s := S1x3136x256) ![0, 896, 0] S1x64x256.size inb_S1x3136x256_S1x64x256_0_896_0))

/-- The value `v827` of the printed body. -/
def b_v827 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay89 (b_v641 x0 x1 x2 x3 x4 x5 x6 x7)

/-- The value `v898` of the printed body. -/
def b_v898 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .fp8e4m3 :=
  k0_pay95 (b_v641 x0 x1 x2 x3 x4 x5 x6 x7) (View.ld x1 (Rect.unit (s := S1x3136x256) ![0, 1216, 0] S1x64x256.size inb_S1x3136x256_S1x64x256_0_1216_0))

/-- The value `v932` of the printed body. -/
def b_v932 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay99 (b_v641 x0 x1 x2 x3 x4 x5 x6 x7) (View.ld x1 (Rect.unit (s := S1x3136x256) ![0, 1408, 0] S1x64x256.size inb_S1x3136x256_S1x64x256_0_1408_0))

/-- The value `cst_312` of the printed body. -/
def b_cst_312  : F .f32 :=
  (Scalar.ofBits .f32 0x43E00000#32 : F .f32)

/-- The value `v933` of the printed body. -/
def b_v933  : FVec F S64x256 .f32 :=
  k0_pay100 (F := F)

/-- The value `v968` of the printed body. -/
def b_v968 (x1 : Vec F S1x3136x256 .fp8e4m3) : FVec F S64x256 .fp8e4m3 :=
  k0_pay104 (View.ld x1 (Rect.unit (s := S1x3136x256) ![0, 1600, 0] S1x64x256.size inb_S1x3136x256_S1x64x256_0_1600_0))

/-- The value `v1005` of the printed body. -/
def b_v1005 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S1x64x256 .fp8e4m3 :=
  k0_pay107 (b_v641 x0 x1 x2 x3 x4 x5 x6 x7) (View.ld x1 (Rect.unit (s := S1x3136x256) ![0, 1728, 0] S1x64x256.size inb_S1x3136x256_S1x64x256_0_1728_0))

/-- The value `v1041` of the printed body. -/
def b_v1041 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .fp8e4m3 :=
  k0_pay110 (b_v641 x0 x1 x2 x3 x4 x5 x6 x7) (View.ld x1 (Rect.unit (s := S1x3136x256) ![0, 1920, 0] S1x64x256.size inb_S1x3136x256_S1x64x256_0_1920_0))

/-- The value `v1075` of the printed body. -/
def b_v1075 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay114 (b_v641 x0 x1 x2 x3 x4 x5 x6 x7) (View.ld x1 (Rect.unit (s := S1x3136x256) ![0, 2112, 0] S1x64x256.size inb_S1x3136x256_S1x64x256_0_2112_0))

/-- The value `cst_391` of the printed body. -/
def b_cst_391  : F .f32 :=
  (Scalar.ofBits .f32 0xC3E00000#32 : F .f32)

/-- The value `v1145` of the printed body. -/
def b_v1145 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .fp8e4m3 :=
  k0_pay120 (b_v641 x0 x1 x2 x3 x4 x5 x6 x7) (View.ld x1 (Rect.unit (s := S1x3136x256) ![0, 2432, 0] S1x64x256.size inb_S1x3136x256_S1x64x256_0_2432_0))

/-- The value `v1181` of the printed body. -/
def b_v1181 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay124 (b_v641 x0 x1 x2 x3 x4 x5 x6 x7) (View.ld x1 (Rect.unit (s := S1x3136x256) ![0, 2624, 0] S1x64x256.size inb_S1x3136x256_S1x64x256_0_2624_0))

/-- The value `v1182` of the printed body. -/
def b_v1182  : FVec F S64x256 .f32 :=
  k0_pay125 (F := F)

/-- The value `v1216` of the printed body. -/
def b_v1216 (x1 : Vec F S1x3136x256 .fp8e4m3) : FVec F S64x256 .f32 :=
  k0_pay129 (View.ld x1 (Rect.unit (s := S1x3136x256) ![0, 2816, 0] S1x64x256.size inb_S1x3136x256_S1x64x256_0_2816_0))

/-- The value `v1217` of the printed body. -/
def b_v1217 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay130 (b_v641 x0 x1 x2 x3 x4 x5 x6 x7)

/-- The value `v1270` of the printed body. -/
def b_v1270 (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : FVec F S64x256 .f32 :=
  k0_pay135 (b_v641 x0 x1 x2 x3 x4 x5 x6 x7) (View.ld x1 (Rect.unit (s := S1x3136x256) ![0, 3072, 0] S1x64x256.size inb_S1x3136x256_S1x64x256_0_3072_0))

/-- The stores of the scaled block, the last first. -/
def yPieces (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : List (View.Piece (Elt F) S1x3136x256 .fp8e4m3) :=
  [⟨(Rect.unit (s := S1x3136x256) ![0, 3072, 0] S1x64x256.size inb_S1x3136x256_S1x64x256_0_3072_0), (k0_pay1 (b_v1270 x0 x1 x2 x3 x4 x5 x6 x7))⟩,
   ⟨(Rect.unit (s := S1x3136x256) ![0, 3008, 0] S1x64x256.size inb_S1x3136x256_S1x64x256_0_3008_0), (k0_pay134 (b_v641 x0 x1 x2 x3 x4 x5 x6 x7) (View.ld x1 (Rect.unit (s := S1x3136x256) ![0, 3008, 0] S1x64x256.size inb_S1x3136x256_S1x64x256_0_3008_0)))⟩,
   ⟨(Rect.unit (s := S1x3136x256) ![0, 2944, 0] S1x64x256.size inb_S1x3136x256_S1x64x256_0_2944_0), (k0_pay133 (b_v641 x0 x1 x2 x3 x4 x5 x6 x7) (View.ld x1 (Rect.unit (s := S1x3136x256) ![0, 2944, 0] S1x64x256.size inb_S1x3136x256_S1x64x256_0_2944_0)))⟩,
   ⟨(Rect.unit (s := S1x3136x256) ![0, 2880, 0] S1x64x256.size inb_S1x3136x256_S1x64x256_0_2880_0), (k0_pay132 (b_v641 x0 x1 x2 x3 x4 x5 x6 x7) (View.ld x1 (Rect.unit (s := S1x3136x256) ![0, 2880, 0] S1x64x256.size inb_S1x3136x256_S1x64x256_0_2880_0)))⟩,
   ⟨(Rect.unit (s := S1x3136x256) ![0, 2816, 0] S1x64x256.size inb_S1x3136x256_S1x64x256_0_2816_0), (k0_pay131 (b_v1216 x1) (b_v1217 x0 x1 x2 x3 x4 x5 x6 x7))⟩,
   ⟨(Rect.unit (s := S1x3136x256) ![0, 2752, 0] S1x64x256.size inb_S1x3136x256_S1x64x256_0_2752_0), (k0_pay128 (b_v641 x0 x1 x2 x3 x4 x5 x6 x7) (View.ld x1 (Rect.unit (s := S1x3136x256) ![0, 2752, 0] S1x64x256.size inb_S1x3136x256_S1x64x256_0_2752_0)))⟩,
   ⟨(Rect.unit (s := S1x3136x256) ![0, 2688, 0] S1x64x256.size inb_S1x3136x256_S1x64x256_0_2688_0), (k0_pay127 (b_v641 x0 x1 x2 x3 x4 x5 x6 x7) (View.ld x1 (Rect.unit (s := S1x3136x256) ![0, 2688, 0] S1x64x256.size inb_S1x3136x256_S1x64x256_0_2688_0)))⟩,
   ⟨(Rect.unit (s := S1x3136x256) ![0, 2624, 0] S1x64x256.size inb_S1x3136x256_S1x64x256_0_2624_0), (k0_pay126 (b_v1181 x0 x1 x2 x3 x4 x5 x6 x7) (b_v1182 (F := F)))⟩,
   ⟨(Rect.unit (s := S1x3136x256) ![0, 2560, 0] S1x64x256.size inb_S1x3136x256_S1x64x256_0_2560_0), (k0_pay123 (b_v641 x0 x1 x2 x3 x4 x5 x6 x7) (View.ld x1 (Rect.unit (s := S1x3136x256) ![0, 2560, 0] S1x64x256.size inb_S1x3136x256_S1x64x256_0_2560_0)))⟩,
   ⟨(Rect.unit (s := S1x3136x256) ![0, 2496, 0] S1x64x256.size inb_S1x3136x256_S1x64x256_0_2496_0), (k0_pay122 (b_v641 x0 x1 x2 x3 x4 x5 x6 x7) (View.ld x1 (Rect.unit (s := S1x3136x256) ![0, 2496, 0] S1x64x256.size inb_S1x3136x256_S1x64x256_0_2496_0)))⟩,
   ⟨(Rect.unit (s := S1x3136x256) ![0, 2432, 0] S1x64x256.size inb_S1x3136x256_S1x64x256_0_2432_0), (k0_pay121 (b_v1145 x0 x1 x2 x3 x4 x5 x6 x7))⟩,
   ⟨(Rect.unit (s := S1x3136x256) ![0, 2368, 0] S1x64x256.size inb_S1x3136x256_S1x64x256_0_2368_0), (k0_pay119 (b_v641 x0 x1 x2 x3 x4 x5 x6 x7) (View.ld x1 (Rect.unit (s := S1x3136x256) ![0, 2368, 0] S1x64x256.size inb_S1x3136x256_S1x64x256_0_2368_0)))⟩,
   ⟨(Rect.unit (s := S1x3136x256) ![0, 2304, 0] S1x64x256.size inb_S1x3136x256_S1x64x256_0_2304_0), (k0_pay118 (b_v641 x0 x1 x2 x3 x4 x5 x6 x7) (View.ld x1 (Rect.unit (s := S1x3136x256) ![0, 2304, 0] S1x64x256.size inb_S1x3136x256_S1x64x256_0_2304_0)))⟩,
   ⟨(Rect.unit (s := S1x3136x256) ![0, 2240, 0] S1x64x256.size inb_S1x3136x256_S1x64x256_0_2240_0), (k0_pay117 (b_v641 x0 x1 x2 x3 x4 x5 x6 x7) (View.ld x1 (Rect.unit (s := S1x3136x256) ![0, 2240, 0] S1x64x256.size inb_S1x3136x256_S1x64x256_0_2240_0)))⟩,
   ⟨(Rect.unit (s := S1x3136x256) ![0, 2176, 0] S1x64x256.size inb_S1x3136x256_S1x64x256_0_2176_0), (k0_pay116 (b_v641 x0 x1 x2 x3 x4 x5 x6 x7) (View.ld x1 (Rect.unit (s := S1x3136x256) ![0, 2176, 0] S1x64x256.size inb_S1x3136x256_S1x64x256_0_2176_0)))⟩,
   ⟨(Rect.unit (s := S1x3136x256) ![0, 2112, 0] S1x64x256.size inb_S1x3136x256_S1x64x256_0_2112_0), (k0_pay115 (b_v1075 x0 x1 x2 x3 x4 x5 x6 x7) (b_cst_391 (F := F)))⟩,
   ⟨(Rect.unit (s := S1x3136x256) ![0, 2048, 0] S1x64x256.size inb_S1x3136x256_S1x64x256_0_2048_0), (k0_pay113 (b_v641 x0 x1 x2 x3 x4 x5 x6 x7) (View.ld x1 (Rect.unit (s := S1x3136x256) ![0, 2048, 0] S1x64x256.size inb_S1x3136x256_S1x64x256_0_2048_0)))⟩,
   ⟨(Rect.unit (s := S1x3136x256) ![0, 1984, 0] S1x64x256.size inb_S1x3136x256_S1x64x256_0_1984_0), (k0_pay112 (b_v641 x0 x1 x2 x3 x4 x5 x6 x7) (View.ld x1 (Rect.unit (s := S1x3136x256) ![0, 1984, 0] S1x64x256.size inb_S1x3136x256_S1x64x256_0_1984_0)))⟩,
   ⟨(Rect.unit (s := S1x3136x256) ![0, 1920, 0] S1x64x256.size inb_S1x3136x256_S1x64x256_0_1920_0), (k0_pay111 (b_v1041 x0 x1 x2 x3 x4 x5 x6 x7))⟩,
   ⟨(Rect.unit (s := S1x3136x256) ![0, 1856, 0] S1x64x256.size inb_S1x3136x256_S1x64x256_0_1856_0), (k0_pay109 (b_v641 x0 x1 x2 x3 x4 x5 x6 x7) (View.ld x1 (Rect.unit (s := S1x3136x256) ![0, 1856, 0] S1x64x256.size inb_S1x3136x256_S1x64x256_0_1856_0)))⟩,
   ⟨(Rect.unit (s := S1x3136x256) ![0, 1792, 0] S1x64x256.size inb_S1x3136x256_S1x64x256_0_1792_0), (k0_pay108 (b_v641 x0 x1 x2 x3 x4 x5 x6 x7) (View.ld x1 (Rect.unit (s := S1x3136x256) ![0, 1792, 0] S1x64x256.size inb_S1x3136x256_S1x64x256_0_1792_0)))⟩,
   ⟨(Rect.unit (s := S1x3136x256) ![0, 1728, 0] S1x64x256.size inb_S1x3136x256_S1x64x256_0_1728_0), (b_v1005 x0 x1 x2 x3 x4 x5 x6 x7)⟩,
   ⟨(Rect.unit (s := S1x3136x256) ![0, 1664, 0] S1x64x256.size inb_S1x3136x256_S1x64x256_0_1664_0), (k0_pay106 (b_v641 x0 x1 x2 x3 x4 x5 x6 x7) (View.ld x1 (Rect.unit (s := S1x3136x256) ![0, 1664, 0] S1x64x256.size inb_S1x3136x256_S1x64x256_0_1664_0)))⟩,
   ⟨(Rect.unit (s := S1x3136x256) ![0, 1600, 0] S1x64x256.size inb_S1x3136x256_S1x64x256_0_1600_0), (k0_pay105 (b_v641 x0 x1 x2 x3 x4 x5 x6 x7) (b_v968 x1))⟩,
   ⟨(Rect.unit (s := S1x3136x256) ![0, 1536, 0] S1x64x256.size inb_S1x3136x256_S1x64x256_0_1536_0), (k0_pay103 (b_v641 x0 x1 x2 x3 x4 x5 x6 x7) (View.ld x1 (Rect.unit (s := S1x3136x256) ![0, 1536, 0] S1x64x256.size inb_S1x3136x256_S1x64x256_0_1536_0)))⟩,
   ⟨(Rect.unit (s := S1x3136x256) ![0, 1472, 0] S1x64x256.size inb_S1x3136x256_S1x64x256_0_1472_0), (k0_pay102 (b_v641 x0 x1 x2 x3 x4 x5 x6 x7) (View.ld x1 (Rect.unit (s := S1x3136x256) ![0, 1472, 0] S1x64x256.size inb_S1x3136x256_S1x64x256_0_1472_0)))⟩,
   ⟨(Rect.unit (s := S1x3136x256) ![0, 1408, 0] S1x64x256.size inb_S1x3136x256_S1x64x256_0_1408_0), (k0_pay101 (b_v932 x0 x1 x2 x3 x4 x5 x6 x7) (b_cst_312 (F := F)) (b_v933 (F := F)))⟩,
   ⟨(Rect.unit (s := S1x3136x256) ![0, 1344, 0] S1x64x256.size inb_S1x3136x256_S1x64x256_0_1344_0), (k0_pay98 (b_v641 x0 x1 x2 x3 x4 x5 x6 x7) (View.ld x1 (Rect.unit (s := S1x3136x256) ![0, 1344, 0] S1x64x256.size inb_S1x3136x256_S1x64x256_0_1344_0)))⟩,
   ⟨(Rect.unit (s := S1x3136x256) ![0, 1280, 0] S1x64x256.size inb_S1x3136x256_S1x64x256_0_1280_0), (k0_pay97 (b_v641 x0 x1 x2 x3 x4 x5 x6 x7) (View.ld x1 (Rect.unit (s := S1x3136x256) ![0, 1280, 0] S1x64x256.size inb_S1x3136x256_S1x64x256_0_1280_0)))⟩,
   ⟨(Rect.unit (s := S1x3136x256) ![0, 1216, 0] S1x64x256.size inb_S1x3136x256_S1x64x256_0_1216_0), (k0_pay96 (b_v898 x0 x1 x2 x3 x4 x5 x6 x7))⟩,
   ⟨(Rect.unit (s := S1x3136x256) ![0, 1152, 0] S1x64x256.size inb_S1x3136x256_S1x64x256_0_1152_0), (k0_pay94 (b_v641 x0 x1 x2 x3 x4 x5 x6 x7) (View.ld x1 (Rect.unit (s := S1x3136x256) ![0, 1152, 0] S1x64x256.size inb_S1x3136x256_S1x64x256_0_1152_0)))⟩,
   ⟨(Rect.unit (s := S1x3136x256) ![0, 1088, 0] S1x64x256.size inb_S1x3136x256_S1x64x256_0_1088_0), (k0_pay93 (b_v641 x0 x1 x2 x3 x4 x5 x6 x7) (View.ld x1 (Rect.unit (s := S1x3136x256) ![0, 1088, 0] S1x64x256.size inb_S1x3136x256_S1x64x256_0_1088_0)))⟩,
   ⟨(Rect.unit (s := S1x3136x256) ![0, 1024, 0] S1x64x256.size inb_S1x3136x256_S1x64x256_0_1024_0), (k0_pay92 (b_v641 x0 x1 x2 x3 x4 x5 x6 x7) (View.ld x1 (Rect.unit (s := S1x3136x256) ![0, 1024, 0] S1x64x256.size inb_S1x3136x256_S1x64x256_0_1024_0)))⟩,
   ⟨(Rect.unit (s := S1x3136x256) ![0, 960, 0] S1x64x256.size inb_S1x3136x256_S1x64x256_0_960_0), (k0_pay91 (b_v641 x0 x1 x2 x3 x4 x5 x6 x7) (View.ld x1 (Rect.unit (s := S1x3136x256) ![0, 960, 0] S1x64x256.size inb_S1x3136x256_S1x64x256_0_960_0)))⟩,
   ⟨(Rect.unit (s := S1x3136x256) ![0, 896, 0] S1x64x256.size inb_S1x3136x256_S1x64x256_0_896_0), (k0_pay90 (b_v826 x1) (b_v827 x0 x1 x2 x3 x4 x5 x6 x7))⟩,
   ⟨(Rect.unit (s := S1x3136x256) ![0, 832, 0] S1x64x256.size inb_S1x3136x256_S1x64x256_0_832_0), (k0_pay87 (b_v641 x0 x1 x2 x3 x4 x5 x6 x7) (View.ld x1 (Rect.unit (s := S1x3136x256) ![0, 832, 0] S1x64x256.size inb_S1x3136x256_S1x64x256_0_832_0)))⟩,
   ⟨(Rect.unit (s := S1x3136x256) ![0, 768, 0] S1x64x256.size inb_S1x3136x256_S1x64x256_0_768_0), (k0_pay86 (b_v641 x0 x1 x2 x3 x4 x5 x6 x7) (View.ld x1 (Rect.unit (s := S1x3136x256) ![0, 768, 0] S1x64x256.size inb_S1x3136x256_S1x64x256_0_768_0)))⟩,
   ⟨(Rect.unit (s := S1x3136x256) ![0, 704, 0] S1x64x256.size inb_S1x3136x256_S1x64x256_0_704_0), (k0_pay85 (b_v791 x0 x1 x2 x3 x4 x5 x6 x7) (b_v792 (F := F)))⟩,
   ⟨(Rect.unit (s := S1x3136x256) ![0, 640, 0] S1x64x256.size inb_S1x3136x256_S1x64x256_0_640_0), (k0_pay82 (b_v641 x0 x1 x2 x3 x4 x5 x6 x7) (View.ld x1 (Rect.unit (s := S1x3136x256) ![0, 640, 0] S1x64x256.size inb_S1x3136x256_S1x64x256_0_640_0)))⟩,
   ⟨(Rect.unit (s := S1x3136x256) ![0, 576, 0] S1x64x256.size inb_S1x3136x256_S1x64x256_0_576_0), (k0_pay81 (b_v641 x0 x1 x2 x3 x4 x5 x6 x7) (View.ld x1 (Rect.unit (s := S1x3136x256) ![0, 576, 0] S1x64x256.size inb_S1x3136x256_S1x64x256_0_576_0)))⟩,
   ⟨(Rect.unit (s := S1x3136x256) ![0, 512, 0] S1x64x256.size inb_S1x3136x256_S1x64x256_0_512_0), (k0_pay80 (b_v755 x0 x1 x2 x3 x4 x5 x6 x7))⟩,
   ⟨(Rect.unit (s := S1x3136x256) ![0, 448, 0] S1x64x256.size inb_S1x3136x256_S1x64x256_0_448_0), (k0_pay78 (b_v641 x0 x1 x2 x3 x4 x5 x6 x7) (View.ld x1 (Rect.unit (s := S1x3136x256) ![0, 448, 0] S1x64x256.size inb_S1x3136x256_S1x64x256_0_448_0)))⟩,
   ⟨(Rect.unit (s := S1x3136x256) ![0, 384, 0] S1x64x256.size inb_S1x3136x256_S1x64x256_0_384_0), (k0_pay77 (b_v641 x0 x1 x2 x3 x4 x5 x6 x7) (View.ld x1 (Rect.unit (s := S1x3136x256) ![0, 384, 0] S1x64x256.size inb_S1x3136x256_S1x64x256_0_384_0)))⟩,
   ⟨(Rect.unit (s := S1x3136x256) ![0, 320, 0] S1x64x256.size inb_S1x3136x256_S1x64x256_0_320_0), (k0_pay76 (b_v641 x0 x1 x2 x3 x4 x5 x6 x7) (View.ld x1 (Rect.unit (s := S1x3136x256) ![0, 320, 0] S1x64x256.size inb_S1x3136x256_S1x64x256_0_320_0)))⟩,
   ⟨(Rect.unit (s := S1x3136x256) ![0, 256, 0] S1x64x256.size inb_S1x3136x256_S1x64x256_0_256_0), (k0_pay75 (b_v641 x0 x1 x2 x3 x4 x5 x6 x7) (View.ld x1 (Rect.unit (s := S1x3136x256) ![0, 256, 0] S1x64x256.size inb_S1x3136x256_S1x64x256_0_256_0)))⟩,
   ⟨(Rect.unit (s := S1x3136x256) ![0, 192, 0] S1x64x256.size inb_S1x3136x256_S1x64x256_0_192_0), (k0_pay74 (b_v685 x0 x1 x2 x3 x4 x5 x6 x7) (b_cst_173 (F := F)))⟩,
   ⟨(Rect.unit (s := S1x3136x256) ![0, 128, 0] S1x64x256.size inb_S1x3136x256_S1x64x256_0_128_0), (k0_pay72 (b_v641 x0 x1 x2 x3 x4 x5 x6 x7) (View.ld x1 (Rect.unit (s := S1x3136x256) ![0, 128, 0] S1x64x256.size inb_S1x3136x256_S1x64x256_0_128_0)))⟩,
   ⟨(Rect.unit (s := S1x3136x256) ![0, 64, 0] S1x64x256.size inb_S1x3136x256_S1x64x256_0_64_0), (k0_pay71 (b_v641 x0 x1 x2 x3 x4 x5 x6 x7) (View.ld x1 (Rect.unit (s := S1x3136x256) ![0, 64, 0] S1x64x256.size inb_S1x3136x256_S1x64x256_0_64_0)))⟩,
   ⟨(Rect.unit (s := S1x3136x256) ![0, 0, 0] S1x64x256.size inb_S1x3136x256_S1x64x256_0_0_0), (k0_pay70 (b_v651 x0 x1 x2 x3 x4 x5 x6 x7))⟩]

theorem yPieces_cover (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) (y : S1x3136x256.Idx) : ∃ p ∈ yPieces x0 x1 x2 x3 x4 x5 x6 x7, y ∈ p.1.set :=
  View.cover_of_tiled (yPieces x0 x1 x2 x3 x4 x5 x6 x7) S1x64x256.size (by rfl) y

/-- The scaled block. -/
def yOut (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x3136x256 .fp8e4m3 := View.canon (yPieces x0 x1 x2 x3 x4 x5 x6 x7)

/-- The row stored into `arg10`. -/
def ysRow (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x256 .f32 := (k0_pay63 (b_v530 x0 x1 x2 x3 x4 x5 x6 x7) (b_v559 x0 x1 x2 x3 x4 x5 x6 x7) (b_v561 x0 x1 x2 x3 x4 x5 x6 x7) (b_v565 x0 x1 x2 x3 x4 x5 x6 x7))

/-- The row stored into `arg11`. -/
def gateRow (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x256 .f32 := (b_v524 x0 x1 x2 x3 x4 x5 x6 x7)

/-- The row stored into `arg16`. -/
def pRow (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x256 .f32 := (k0_pay64 (b_v384 x0 x1))

/-- The row stored into `arg17`. -/
def psRow (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x128 .f32 := (k0_pay65 (b_v377 x0 x1))

/-- The row stored into `arg18`. -/
def hRow (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x16 .f32 := (k0_pay66 (b_v503 x0 x1 x2 x3 x4))

/-- The row stored into `arg19`. -/
def hsRow (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32) : Vec F S1x128 .f32 := (k0_pay67 (b_v501 x0 x1 x2 x3 x4))

/-- One store over known contents reads as the overlay. -/
theorem read_writes_one {sp : Space} {s : Shape} {e : EltTy} (v : View sig .tc sp s e) (f : v.ty.Contents (Elt F)) (r : Rect s) (w : r.shape.Idx → Elt F e) :
    View.read (Elt F) v (View.writes v (Elt F) f [⟨r, w⟩]) = r.overlay (View.read (Elt F) v f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']
    rfl

/-- A store of the whole block reads as its payload. -/
theorem read_writes_full {sp : Space} {s : Shape} {e : EltTy} (v : View sig .tc sp s e) (f : v.ty.Contents (Elt F)) (off : Fin s.rank → ℕ)
    (inb : ∀ a, off a + s.size a ≤ s.size a) (w : s.Idx → Elt F e) :
    View.read (Elt F) v (View.writes v (Elt F) f [⟨Rect.unit off s.size inb, w⟩]) = w := by
  funext y
  exact View.read_writes_cons_unit_of_mem v f inb w [] y y rfl fun a => by have := inb a; omega

/-- A load of the whole block is the block. -/
theorem ld_full {s : Shape} {e : EltTy} (X : s.Idx → Elt F e) (off : Fin s.rank → ℕ) (inb : ∀ a, off a + s.size a ≤ s.size a) :
    View.ld X (Rect.unit off s.size inb) = X := by
  funext y
  refine congrArg X (funext fun a => Fin.ext ?_)
  have := inb a
  show off a + 1 * (y a).val = (y a).val
  omega

/-- A table of 64 rows with the row of point `i` replaced. -/
def setRow256 (i : grid0.Coords) (d : Vec F S64x256 .f32) (v : Vec F S1x256 .f32) : Vec F S64x256 .f32 :=
  (Rect.unit (s := S64x256) (k0_off1 i) S1x256.size (k0_off1_inb i)).overlay d v

theorem read_setRow256 (i : grid0.Coords) {sp : Space} (a : Memref sig .tc sp S64x256 .f32) (f : a.view.ty.Contents (Elt F)) (v : Vec F S1x256 .f32) :
    View.read (Elt F) a.view (View.writes a.view (Elt F) f [⟨Rect.unit (s := S64x256) (k0_off1 i) S1x256.size (k0_off1_inb i), v⟩]) = setRow256 i (View.read (Elt F) a.view f) v := by
  rw [read_writes_one]; rfl

/-- A table of 64 rows with the row of point `i` replaced. -/
def setRow128 (i : grid0.Coords) (d : Vec F S64x128 .f32) (v : Vec F S1x128 .f32) : Vec F S64x128 .f32 :=
  (Rect.unit (s := S64x128) (k0_off2 i) S1x128.size (k0_off2_inb i)).overlay d v

theorem read_setRow128 (i : grid0.Coords) {sp : Space} (a : Memref sig .tc sp S64x128 .f32) (f : a.view.ty.Contents (Elt F)) (v : Vec F S1x128 .f32) :
    View.read (Elt F) a.view (View.writes a.view (Elt F) f [⟨Rect.unit (s := S64x128) (k0_off2 i) S1x128.size (k0_off2_inb i), v⟩]) = setRow128 i (View.read (Elt F) a.view f) v := by
  rw [read_writes_one]; rfl

/-- A table of 64 rows with the row of point `i` replaced. -/
def setRow16 (i : grid0.Coords) (d : Vec F S64x16 .f32) (v : Vec F S1x16 .f32) : Vec F S64x16 .f32 :=
  (Rect.unit (s := S64x16) (k0_off3 i) S1x16.size (k0_off3_inb i)).overlay d v

theorem read_setRow16 (i : grid0.Coords) {sp : Space} (a : Memref sig .tc sp S64x16 .f32) (f : a.view.ty.Contents (Elt F)) (v : Vec F S1x16 .f32) :
    View.read (Elt F) a.view (View.writes a.view (Elt F) f [⟨Rect.unit (s := S64x16) (k0_off3 i) S1x16.size (k0_off3_inb i), v⟩]) = setRow16 i (View.read (Elt F) a.view f) v := by
  rw [read_writes_one]; rfl

end Cert.KernelIdeal.Hand

end
-- ==== Proof.RunA.lean ====
/- The run of the kernel body at a point that is not the last. -/
module

public import proofs.«01_k».proof.Proof.Body

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 2000000 in
/-- The body at a point other than the last: it stores the scaled block and its row of every table. -/
theorem run_A (c : Dev nD) (i : grid0.Coords) (arg1 : Memref sig .tc .smem S1 .f32) (harg1 : arg1.IsWhole) (arg2 : Memref sig .tc .vmem S1x3136x256 .fp8e4m3) (harg2 : arg2.IsWhole) (arg3 : Memref sig .tc .vmem S16x256 .fp8e4m3) (harg3 : arg3.IsWhole) (arg4 : Memref sig .tc .vmem S16x1 .f32) (harg4 : arg4.IsWhole) (arg5 : Memref sig .tc .vmem S16x1 .f32) (harg5 : arg5.IsWhole) (arg6 : Memref sig .tc .vmem S16x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1x3136x256 .fp8e4m3) (harg9 : arg9.IsWhole) (arg10 : Memref sig .tc .vmem S64x256 .f32) (harg10 : arg10.IsWhole) (arg11 : Memref sig .tc .vmem S64x256 .f32) (harg11 : arg11.IsWhole) (arg12 : Memref sig .tc .vmem S64x256 .fp8e4m3) (harg12 : arg12.IsWhole) (arg13 : Memref sig .tc .vmem S1x64 .f32) (harg13 : arg13.IsWhole) (arg14 : Memref sig .tc .vmem S64x16 .fp8e4m3) (harg14 : arg14.IsWhole) (arg15 : Memref sig .tc .vmem S1x64 .f32) (harg15 : arg15.IsWhole) (arg16 : Memref sig .tc .vmem S64x256 .f32) (harg16 : arg16.IsWhole) (arg17 : Memref sig .tc .vmem S64x128 .f32) (harg17 : arg17.IsWhole) (arg18 : Memref sig .tc .vmem S64x16 .f32) (harg18 : arg18.IsWhole) (arg19 : Memref sig .tc .vmem S64x128 .f32) (harg19 : arg19.IsWhole) (hc0 : ¬cond0_0 i)
    (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32)
    (d9 d10 : Vec F S64x256 .f32) (e0 : Vec F S64x256 .f32) (e1 : Vec F S64x128 .f32) (e2 : Vec F S64x16 .f32) (e3 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare d9 ∗ owns (c : Thread nD τ) arg11 fullShare d10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare e0 ∗ owns (c : Thread nD τ) arg17 fullShare e1 ∗ owns (c : Thread nD τ) arg18 fullShare e2 ∗ owns (c : Thread nD τ) arg19 fullShare e3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (yOut x0 x1 x2 x3 x4 x5 x6 x7) ∗ owns (c : Thread nD τ) arg10 fullShare (setRow256 i d9 (ysRow x0 x1 x2 x3 x4 x5 x6 x7)) ∗ owns (c : Thread nD τ) arg11 fullShare (setRow256 i d10 (gateRow x0 x1 x2 x3 x4 x5 x6 x7)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (setRow256 i e0 (pRow x0 x1 x2 x3 x4 x5 x6 x7)) ∗ owns (c : Thread nD τ) arg17 fullShare (setRow128 i e1 (psRow x0 x1 x2 x3 x4 x5 x6 x7)) ∗ owns (c : Thread nD τ) arg18 fullShare (setRow16 i e2 (hRow x0 x1 x2 x3 x4 x5 x6 x7)) ∗ owns (c : Thread nD τ) arg19 fullShare (setRow128 i e3 (hsRow x0 x1 x2 x3 x4 x5 x6 x7))) -∗ K ⟨⟩))
          ⊢ wp frame (wpE (defs₀ (F := F)) Variants.none c none) E (cc0_se_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_se_block_eq_skeleton]; unfold cc0_se_block_skel
    simp only [k0_part32_eq_skeleton]; unfold k0_part32_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, Hk⟩
    subst hf0 hf1 hf2 hf3 hf4 hf5 hf6 hf7 hf9 hf10 hfs0 hfs1 hfs2 hfs3
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro; refine (View.read_writes_eq_canon _ _ _ (yPieces_cover _ _ _ _ _ _ _ _)).trans ?_; rfl
    isplitl [H9]
    · iexists _; isplitr; swap; · iexact H9
      ipureintro; exact read_setRow256 ..
    isplitl [H10]
    · iexists _; isplitr; swap; · iexact H10
      ipureintro; exact read_setRow256 ..
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro; exact read_setRow256 ..
    isplitl [HS1]
    · iexists _; isplitr; swap; · iexact HS1
      ipureintro; exact read_setRow128 ..
    isplitl [HS2]
    · iexists _; isplitr; swap; · iexact HS2
      ipureintro; exact read_setRow16 ..
    iexists _; isplitr; swap; · iexact HS3
    ipureintro; exact read_setRow128 ..

end Cert.KernelIdeal.Hand

end
-- ==== Proof.RunB.lean ====
/- The run of the kernel body at the last point. -/
module

public import proofs.«01_k».proof.Proof.RunA

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 2000000 in
/-- The body at the last point: as at the others, and the four collected tables are stored to their results. -/
theorem run_B (c : Dev nD) (i : grid0.Coords) (arg1 : Memref sig .tc .smem S1 .f32) (harg1 : arg1.IsWhole) (arg2 : Memref sig .tc .vmem S1x3136x256 .fp8e4m3) (harg2 : arg2.IsWhole) (arg3 : Memref sig .tc .vmem S16x256 .fp8e4m3) (harg3 : arg3.IsWhole) (arg4 : Memref sig .tc .vmem S16x1 .f32) (harg4 : arg4.IsWhole) (arg5 : Memref sig .tc .vmem S16x1 .f32) (harg5 : arg5.IsWhole) (arg6 : Memref sig .tc .vmem S16x256 .fp8e4m3) (harg6 : arg6.IsWhole) (arg7 : Memref sig .tc .vmem S1x256 .f32) (harg7 : arg7.IsWhole) (arg8 : Memref sig .tc .vmem S1x256 .f32) (harg8 : arg8.IsWhole) (arg9 : Memref sig .tc .vmem S1x3136x256 .fp8e4m3) (harg9 : arg9.IsWhole) (arg10 : Memref sig .tc .vmem S64x256 .f32) (harg10 : arg10.IsWhole) (arg11 : Memref sig .tc .vmem S64x256 .f32) (harg11 : arg11.IsWhole) (arg12 : Memref sig .tc .vmem S64x256 .fp8e4m3) (harg12 : arg12.IsWhole) (arg13 : Memref sig .tc .vmem S1x64 .f32) (harg13 : arg13.IsWhole) (arg14 : Memref sig .tc .vmem S64x16 .fp8e4m3) (harg14 : arg14.IsWhole) (arg15 : Memref sig .tc .vmem S1x64 .f32) (harg15 : arg15.IsWhole) (arg16 : Memref sig .tc .vmem S64x256 .f32) (harg16 : arg16.IsWhole) (arg17 : Memref sig .tc .vmem S64x128 .f32) (harg17 : arg17.IsWhole) (arg18 : Memref sig .tc .vmem S64x16 .f32) (harg18 : arg18.IsWhole) (arg19 : Memref sig .tc .vmem S64x128 .f32) (harg19 : arg19.IsWhole) (hc0 : cond0_0 i)
    (x0 : Vec F S1 .f32) (x1 : Vec F S1x3136x256 .fp8e4m3) (x2 : Vec F S16x256 .fp8e4m3) (x3 : Vec F S16x1 .f32) (x4 : Vec F S16x1 .f32) (x5 : Vec F S16x256 .fp8e4m3) (x6 : Vec F S1x256 .f32) (x7 : Vec F S1x256 .f32)
    (d9 d10 : Vec F S64x256 .f32) (e0 : Vec F S64x256 .f32) (e1 : Vec F S64x128 .f32) (e2 : Vec F S64x16 .f32) (e3 : Vec F S64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare d9 ∗ owns (c : Thread nD τ) arg11 fullShare d10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare e0 ∗ owns (c : Thread nD τ) arg17 fullShare e1 ∗ owns (c : Thread nD τ) arg18 fullShare e2 ∗ owns (c : Thread nD τ) arg19 fullShare e3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (yOut x0 x1 x2 x3 x4 x5 x6 x7) ∗ owns (c : Thread nD τ) arg10 fullShare (setRow256 i d9 (ysRow x0 x1 x2 x3 x4 x5 x6 x7)) ∗ owns (c : Thread nD τ) arg11 fullShare (setRow256 i d10 (gateRow x0 x1 x2 x3 x4 x5 x6 x7)) ∗ owns (c : Thread nD τ) arg12 fullShare (k0_pay2 (setRow256 i e0 (pRow x0 x1 x2 x3 x4 x5 x6 x7))) ∗ owns (c : Thread nD τ) arg13 fullShare (k0_pay5 (setRow128 i e1 (psRow x0 x1 x2 x3 x4 x5 x6 x7))) ∗ owns (c : Thread nD τ) arg14 fullShare (k0_pay3 (setRow16 i e2 (hRow x0 x1 x2 x3 x4 x5 x6 x7))) ∗ owns (c : Thread nD τ) arg15 fullShare (k0_pay6 (setRow128 i e3 (hsRow x0 x1 x2 x3 x4 x5 x6 x7))) ∗ owns (c : Thread nD τ) arg16 fullShare (setRow256 i e0 (pRow x0 x1 x2 x3 x4 x5 x6 x7)) ∗ owns (c : Thread nD τ) arg17 fullShare (setRow128 i e1 (psRow x0 x1 x2 x3 x4 x5 x6 x7)) ∗ owns (c : Thread nD τ) arg18 fullShare (setRow16 i e2 (hRow x0 x1 x2 x3 x4 x5 x6 x7)) ∗ owns (c : Thread nD τ) arg19 fullShare (setRow128 i e3 (hsRow x0 x1 x2 x3 x4 x5 x6 x7))) -∗ K ⟨⟩))
          ⊢ wp frame (wpE (defs₀ (F := F)) Variants.none c none) E (cc0_se_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_se_block_eq_skeleton]; unfold cc0_se_block_skel
    simp only [k0_part32_eq_skeleton]; unfold k0_part32_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, Hk⟩
    subst hf0 hf1 hf2 hf3 hf4 hf5 hf6 hf7 hf9 hf10 hfs0 hfs1 hfs2 hfs3
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; swap; · iexact H8
      ipureintro; refine (View.read_writes_eq_canon _ _ _ (yPieces_cover _ _ _ _ _ _ _ _)).trans ?_; rfl
    isplitl [H9]
    · iexists _; isplitr; swap; · iexact H9
      ipureintro; exact read_setRow256 ..
    isplitl [H10]
    · iexists _; isplitr; swap; · iexact H10
      ipureintro; exact read_setRow256 ..
    isplitl [H11]
    · iexists _; isplitr; swap; · iexact H11
      ipureintro; refine (read_writes_full ..).trans (congrArg _ ((ld_full _ _ _).trans (read_setRow256 _ arg16 _ _)))
    isplitl [H12]
    · iexists _; isplitr; swap; · iexact H12
      ipureintro; refine (read_writes_full ..).trans (congrArg _ ((ld_full _ _ _).trans (read_setRow128 _ arg17 _ _)))
    isplitl [H13]
    · iexists _; isplitr; swap; · iexact H13
      ipureintro; refine (read_writes_full ..).trans (congrArg _ ((ld_full _ _ _).trans (read_setRow16 _ arg18 _ _)))
    isplitl [H14]
    · iexists _; isplitr; swap; · iexact H14
      ipureintro; refine (read_writes_full ..).trans (congrArg _ ((ld_full _ _ _).trans (read_setRow128 _ arg19 _ _)))
    isplitl [HS0]
    · iexists _; isplitr; swap; · iexact HS0
      ipureintro; exact read_setRow256 ..
    isplitl [HS1]
    · iexists _; isplitr; swap; · iexact HS1
      ipureintro; exact read_setRow128 ..
    isplitl [HS2]
    · iexists _; isplitr; swap; · iexact HS2
      ipureintro; exact read_setRow16 ..
    iexists _; isplitr; swap; · iexact HS3
    ipureintro; exact read_setRow128 ..

end Cert.KernelIdeal.Hand

end
-- ==== Proof.Data.lean ====
/- What the kernel's one region leaves, stated relationally: after the call at point `t` the first `t + 1` rows of every table are
   the rows of the points so far; the block of the scaled input is that point's; at the last point the collected
   tables are stored. The body's triples give the obligation at every point, the library the run. -/
module

public import proofs.«01_k».proof.Proof.RunB
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Tables filled row by row -/

/-- The rows below `n` of the table `X` are the rows `v t` of the points `t` below `n`. -/
def TabOK {α : Type} {W : ℕ} (v : Fin cfg0.N → (⟨2, ![1, W]⟩ : Shape).Idx → α) (n : ℕ) (X : (⟨2, ![64, W]⟩ : Shape).Idx → α) : Prop :=
  ∀ t : Fin cfg0.N, t.val < n → ∀ (y : (⟨2, ![64, W]⟩ : Shape).Idx) (x : (⟨2, ![1, W]⟩ : Shape).Idx),
    (y (0 : Fin 2)).val = t.val → (y (1 : Fin 2)).val = (x (1 : Fin 2)).val → X y = v t x

theorem TabOK.zero {α : Type} {W : ℕ} (v : Fin cfg0.N → (⟨2, ![1, W]⟩ : Shape).Idx → α) (X : (⟨2, ![64, W]⟩ : Shape).Idx → α) : TabOK v 0 X :=
  fun _ h => absurd h (Nat.not_lt_zero _)

/-- Overlaying row `t` on a table whose earlier rows are right gives a table right one row further. -/
theorem TabOK.step {α : Type} {W : ℕ} {v : Fin cfg0.N → (⟨2, ![1, W]⟩ : Shape).Idx → α} (t : Fin cfg0.N) {X : (⟨2, ![64, W]⟩ : Shape).Idx → α}
    (h : TabOK v t.val X) {off : Fin 2 → ℕ} (inb : ∀ a : Fin 2, off a + (⟨2, ![1, W]⟩ : Shape).size a ≤ (⟨2, ![64, W]⟩ : Shape).size a)
    (hoff : off = ![(grid0.coords t 0).val, 0]) :
    TabOK v (t.val + 1) ((Rect.unit (s := (⟨2, ![64, W]⟩ : Shape)) off (⟨2, ![1, W]⟩ : Shape).size inb).overlay X (v t)) := by
  subst hoff
  have ht : t.val < 64 := Nat.lt_of_lt_of_eq t.isLt N_0
  have e0 : (grid0.coords t 0).val = t.val := by
    have : (grid0.coords t 0).val = t.val / 1 % 64 := Pipeline.Grid.coords_val t 0 (by decide) rfl
    rw [this]; omega
  intro u hu y x hy0 hy1
  have hx0 : (x (0 : Fin 2)).val = 0 := by
    have : (x (0 : Fin 2)).val < 1 := (x (0 : Fin 2)).isLt
    omega
  rcases Nat.lt_or_ge u.val t.val with hlt | hge
  · rw [Rect.overlay_of_not_mem]
    · exact h u hlt y x hy0 hy1
    · rw [Rect.mem_set_unit]
      intro hall
      have h0 := (hall (0 : Fin 2)).1
      have h0' : (grid0.coords t 0).val ≤ (y (0 : Fin 2)).val := h0
      omega
  · obtain rfl : u = t := Fin.ext (by omega)
    have hy : (Rect.unit (s := (⟨2, ![64, W]⟩ : Shape)) ![(grid0.coords u 0).val, 0] (⟨2, ![1, W]⟩ : Shape).size inb).emb x = y :=
      funext fun a => Fin.ext (by
        revert a
        refine Fin.forall_fin_two.mpr ⟨?_, ?_⟩
        · show (grid0.coords u 0).val + 1 * (x (0 : Fin 2)).val = (y (0 : Fin 2)).val
          omega
        · show 0 + 1 * (x (1 : Fin 2)).val = (y (1 : Fin 2)).val
          omega)
    rw [← hy, Rect.overlay_emb]

/-! ## The rows and blocks of the points -/

/-- `yOut` of the blocks of point `t`. -/
def yB (c : Dev nD) (t : Fin cfg0.N) : Vec F S1x3136x256 .fp8e4m3 :=
  yOut (iblk m c 0 t) (iblk m c 1 t) (iblk m c 2 t) (iblk m c 3 t) (iblk m c 4 t) (iblk m c 5 t) (iblk m c 6 t) (iblk m c 7 t)

/-- `ysRow` of the blocks of point `t`. -/
def ysR (c : Dev nD) (t : Fin cfg0.N) : Vec F S1x256 .f32 :=
  ysRow (iblk m c 0 t) (iblk m c 1 t) (iblk m c 2 t) (iblk m c 3 t) (iblk m c 4 t) (iblk m c 5 t) (iblk m c 6 t) (iblk m c 7 t)

/-- `gateRow` of the blocks of point `t`. -/
def gateR (c : Dev nD) (t : Fin cfg0.N) : Vec F S1x256 .f32 :=
  gateRow (iblk m c 0 t) (iblk m c 1 t) (iblk m c 2 t) (iblk m c 3 t) (iblk m c 4 t) (iblk m c 5 t) (iblk m c 6 t) (iblk m c 7 t)

/-- `pRow` of the blocks of point `t`. -/
def pR (c : Dev nD) (t : Fin cfg0.N) : Vec F S1x256 .f32 :=
  pRow (iblk m c 0 t) (iblk m c 1 t) (iblk m c 2 t) (iblk m c 3 t) (iblk m c 4 t) (iblk m c 5 t) (iblk m c 6 t) (iblk m c 7 t)

/-- `psRow` of the blocks of point `t`. -/
def psR (c : Dev nD) (t : Fin cfg0.N) : Vec F S1x128 .f32 :=
  psRow (iblk m c 0 t) (iblk m c 1 t) (iblk m c 2 t) (iblk m c 3 t) (iblk m c 4 t) (iblk m c 5 t) (iblk m c 6 t) (iblk m c 7 t)

/-- `hRow` of the blocks of point `t`. -/
def hR (c : Dev nD) (t : Fin cfg0.N) : Vec F S1x16 .f32 :=
  hRow (iblk m c 0 t) (iblk m c 1 t) (iblk m c 2 t) (iblk m c 3 t) (iblk m c 4 t) (iblk m c 5 t) (iblk m c 6 t) (iblk m c 7 t)

/-- `hsRow` of the blocks of point `t`. -/
def hsR (c : Dev nD) (t : Fin cfg0.N) : Vec F S1x128 .f32 :=
  hsRow (iblk m c 0 t) (iblk m c 1 t) (iblk m c 2 t) (iblk m c 3 t) (iblk m c 4 t) (iblk m c 5 t) (iblk m c 6 t) (iblk m c 7 t)

/-! ## The proof data -/

/-- What the body may leave in window `w`'s staging buffer at point `t`, given what it was handed there. -/
def afterRel (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => X = Y
  | ⟨6, _⟩, Y, X => X = Y
  | ⟨7, _⟩, Y, X => X = Y
  | ⟨8, _⟩, _, X => X = yB m c t
  | ⟨9, _⟩, Y, X => TabOK (ysR m c) t.val Y → TabOK (ysR m c) (t.val + 1) X
  | ⟨10, _⟩, Y, X => TabOK (gateR m c) t.val Y → TabOK (gateR m c) (t.val + 1) X
  | ⟨11, _⟩, _, X => t.val % 64 = 63 → ∃ e, TabOK (pR m c) 64 e ∧ X = k0_pay2 e
  | ⟨12, _⟩, _, X => t.val % 64 = 63 → ∃ e, TabOK (psR m c) 64 e ∧ X = k0_pay5 e
  | ⟨13, _⟩, _, X => t.val % 64 = 63 → ∃ e, TabOK (hR m c) 64 e ∧ X = k0_pay3 e
  | ⟨14, _⟩, _, X => t.val % 64 = 63 → ∃ e, TabOK (hsR m c) 64 e ∧ X = k0_pay6 e

/-- The invariant before point `t`: the scratch tables right up to row `t`, and the generator register at some state. -/
def PhiT (c : Dev nD) (t : ℕ) : sProp 𝕄 :=
  iprop(iprop((∃ d, ⌜TabOK (pR m c) t d⌝ ∗ owns (c : Thread nD τ) scM0_0 fullShare d) ∗ (∃ d, ⌜TabOK (psR m c) t d⌝ ∗ owns (c : Thread nD τ) scM0_1 fullShare d) ∗ (∃ d, ⌜TabOK (hR m c) t d⌝ ∗ owns (c : Thread nD τ) scM0_2 fullShare d) ∗ (∃ d, ⌜TabOK (hsR m c) t d⌝ ∗ owns (c : Thread nD τ) scM0_3 fullShare d)) ∗ (∃ r, prngReg c r))

/-- The proof data of the one pipeline on core `c`. -/
def rdat (c : Dev nD) : Pipeline.RDat τ (Elt F) Unit ℕ (UR sig nD τ) ℕ cfg0 c where
  A w := V m c (Pipeline.arrRef spec0 w)
  after w t Y X := afterRel m c w t Y X
  Φ t := PhiT m c t.val
  q _ := fullShare
  owed _ := 0

theorem A_eq (c : Dev nD) (w : Fin cfg0.W) : (rdat m c).A w = V m c (Pipeline.arrRef spec0 w) := by
  dsimp only [rdat]

/-! ## What the body finds -/

theorem finds_0 (c : Dev nD) (t : Fin cfg0.N) (Y) (h : (rdat m c).Finds 0 t Y) : Y = iblk m c 0 t := by
  obtain ⟨d, hd⟩ := Pipeline.RDat.finds_in_eq_fetched (rdat m c) 0 rfl (fun _ _ _ => rfl) (fun _ _ _ h => h) t Y h
  rw [hd]; unfold Pipeline.RDat.fetched Pipeline.RDat.blockOf iblk; rw [A_eq]; try rfl

theorem finds_1 (c : Dev nD) (t : Fin cfg0.N) (Y) (h : (rdat m c).Finds 1 t Y) : Y = iblk m c 1 t := by
  obtain ⟨d, hd⟩ := Pipeline.RDat.finds_in_eq_fetched (rdat m c) 1 rfl (fun _ _ _ => rfl) (fun _ _ _ h => h) t Y h
  rw [hd]; unfold Pipeline.RDat.fetched Pipeline.RDat.blockOf iblk; rw [A_eq]; try rfl

theorem finds_2 (c : Dev nD) (t : Fin cfg0.N) (Y) (h : (rdat m c).Finds 2 t Y) : Y = iblk m c 2 t := by
  obtain ⟨d, hd⟩ := Pipeline.RDat.finds_in_eq_fetched (rdat m c) 2 rfl (fun _ _ _ => rfl) (fun _ _ _ h => h) t Y h
  rw [hd]; unfold Pipeline.RDat.fetched Pipeline.RDat.blockOf iblk; rw [A_eq]; try rfl

theorem finds_3 (c : Dev nD) (t : Fin cfg0.N) (Y) (h : (rdat m c).Finds 3 t Y) : Y = iblk m c 3 t := by
  obtain ⟨d, hd⟩ := Pipeline.RDat.finds_in_eq_fetched (rdat m c) 3 rfl (fun _ _ _ => rfl) (fun _ _ _ h => h) t Y h
  rw [hd]; unfold Pipeline.RDat.fetched Pipeline.RDat.blockOf iblk; rw [A_eq]; try rfl

theorem finds_4 (c : Dev nD) (t : Fin cfg0.N) (Y) (h : (rdat m c).Finds 4 t Y) : Y = iblk m c 4 t := by
  obtain ⟨d, hd⟩ := Pipeline.RDat.finds_in_eq_fetched (rdat m c) 4 rfl (fun _ _ _ => rfl) (fun _ _ _ h => h) t Y h
  rw [hd]; unfold Pipeline.RDat.fetched Pipeline.RDat.blockOf iblk; rw [A_eq]; try rfl

theorem finds_5 (c : Dev nD) (t : Fin cfg0.N) (Y) (h : (rdat m c).Finds 5 t Y) : Y = iblk m c 5 t := by
  obtain ⟨d, hd⟩ := Pipeline.RDat.finds_in_eq_fetched (rdat m c) 5 rfl (fun _ _ _ => rfl) (fun _ _ _ h => h) t Y h
  rw [hd]; unfold Pipeline.RDat.fetched Pipeline.RDat.blockOf iblk; rw [A_eq]; try rfl

theorem finds_6 (c : Dev nD) (t : Fin cfg0.N) (Y) (h : (rdat m c).Finds 6 t Y) : Y = iblk m c 6 t := by
  obtain ⟨d, hd⟩ := Pipeline.RDat.finds_in_eq_fetched (rdat m c) 6 rfl (fun _ _ _ => rfl) (fun _ _ _ h => h) t Y h
  rw [hd]; unfold Pipeline.RDat.fetched Pipeline.RDat.blockOf iblk; rw [A_eq]; try rfl

theorem finds_7 (c : Dev nD) (t : Fin cfg0.N) (Y) (h : (rdat m c).Finds 7 t Y) : Y = iblk m c 7 t := by
  obtain ⟨d, hd⟩ := Pipeline.RDat.finds_in_eq_fetched (rdat m c) 7 rfl (fun _ _ _ => rfl) (fun _ _ _ h => h) t Y h
  rw [hd]; unfold Pipeline.RDat.fetched Pipeline.RDat.blockOf iblk; rw [A_eq]; try rfl

theorem finds_9 (c : Dev nD) : ∀ (n : ℕ) (t : Fin cfg0.N), t.val = n → ∀ Y, (rdat m c).Finds 9 t Y → TabOK (ysR m c) t.val Y := by
  intro n
  induction n with
  | zero => intro t ht Y _; rw [ht]; exact TabOK.zero _ _
  | succ n ih =>
    intro t ht Y h
    have hN : t.val < 64 := Nat.lt_of_lt_of_eq t.isLt N_0
    have hf : (cfg0.win 9).fetch t = false := rfl
    rcases ((rdat m c).finds_of_pos hf (by omega) Y).mp h with hfl | ⟨Y', hY', hR⟩
    · have := (flush0_9 _).mp hfl
      have e : t.val - 1 = n := by omega
      simp only [e] at this; omega
    · have e : t.val - 1 + 1 = t.val := by omega
      have h1 := ih ⟨t.val - 1, by omega⟩ (by show t.val - 1 = n; omega) Y' hY'
      have h2 : TabOK (ysR m c) (t.val - 1 + 1) Y := hR h1
      rwa [e] at h2

theorem finds_10 (c : Dev nD) : ∀ (n : ℕ) (t : Fin cfg0.N), t.val = n → ∀ Y, (rdat m c).Finds 10 t Y → TabOK (gateR m c) t.val Y := by
  intro n
  induction n with
  | zero => intro t ht Y _; rw [ht]; exact TabOK.zero _ _
  | succ n ih =>
    intro t ht Y h
    have hN : t.val < 64 := Nat.lt_of_lt_of_eq t.isLt N_0
    have hf : (cfg0.win 10).fetch t = false := rfl
    rcases ((rdat m c).finds_of_pos hf (by omega) Y).mp h with hfl | ⟨Y', hY', hR⟩
    · have := (flush0_10 _).mp hfl
      have e : t.val - 1 = n := by omega
      simp only [e] at this; omega
    · have e : t.val - 1 + 1 = t.val := by omega
      have h1 := ih ⟨t.val - 1, by omega⟩ (by show t.val - 1 = n; omega) Y' hY'
      have h2 : TabOK (gateR m c) (t.val - 1 + 1) Y := hR h1
      rwa [e] at h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body at any point, from the blocks and what the tables hold so far. -/
theorem sound_body (c : Dev nD) (t : Fin cfg0.N) (Y8) (Y9 Y10 : Vec F S64x256 .f32) (Y11) (Y12) (Y13) (Y14) :
    iprop(PhiT m c t.val ∗ (rdat m c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare Y8
      ∗ owns (c : Thread nD τ) (ms0_9 t) fullShare Y9
      ∗ owns (c : Thread nD τ) (ms0_10 t) fullShare Y10
      ∗ owns (c : Thread nD τ) (ms0_11 t) fullShare Y11
      ∗ owns (c : Thread nD τ) (ms0_12 t) fullShare Y12
      ∗ owns (c : Thread nD τ) (ms0_13 t) fullShare Y13
      ∗ owns (c : Thread nD τ) (ms0_14 t) fullShare Y14)
    ⊢ wp frame (wpE (defs₀ (F := F)) Variants.none c none) Set.univ (bodyAt0 t) (fun _ => iprop(PhiT m c (t.val + 1) ∗ (rdat m c).owesAt () t.castSucc
      ∗ (∃ X, ⌜afterRel m c 0 t (iblk m c 0 t) X⌝ ∗ owns (c : Thread nD τ) (ms0_0 t) fullShare X)
      ∗ (∃ X, ⌜afterRel m c 1 t (iblk m c 1 t) X⌝ ∗ owns (c : Thread nD τ) (ms0_1 t) fullShare X)
      ∗ (∃ X, ⌜afterRel m c 2 t (iblk m c 2 t) X⌝ ∗ owns (c : Thread nD τ) (ms0_2 t) fullShare X)
      ∗ (∃ X, ⌜afterRel m c 3 t (iblk m c 3 t) X⌝ ∗ owns (c : Thread nD τ) (ms0_3 t) fullShare X)
      ∗ (∃ X, ⌜afterRel m c 4 t (iblk m c 4 t) X⌝ ∗ owns (c : Thread nD τ) (ms0_4 t) fullShare X)
      ∗ (∃ X, ⌜afterRel m c 5 t (iblk m c 5 t) X⌝ ∗ owns (c : Thread nD τ) (ms0_5 t) fullShare X)
      ∗ (∃ X, ⌜afterRel m c 6 t (iblk m c 6 t) X⌝ ∗ owns (c : Thread nD τ) (ms0_6 t) fullShare X)
      ∗ (∃ X, ⌜afterRel m c 7 t (iblk m c 7 t) X⌝ ∗ owns (c : Thread nD τ) (ms0_7 t) fullShare X)
      ∗ (∃ X, ⌜afterRel m c 8 t Y8 X⌝ ∗ owns (c : Thread nD τ) (ms0_8 t) fullShare X)
      ∗ (∃ X, ⌜afterRel m c 9 t Y9 X⌝ ∗ owns (c : Thread nD τ) (ms0_9 t) fullShare X)
      ∗ (∃ X, ⌜afterRel m c 10 t Y10 X⌝ ∗ owns (c : Thread nD τ) (ms0_10 t) fullShare X)
      ∗ (∃ X, ⌜afterRel m c 11 t Y11 X⌝ ∗ owns (c : Thread nD τ) (ms0_11 t) fullShare X)
      ∗ (∃ X, ⌜afterRel m c 12 t Y12 X⌝ ∗ owns (c : Thread nD τ) (ms0_12 t) fullShare X)
      ∗ (∃ X, ⌜afterRel m c 13 t Y13 X⌝ ∗ owns (c : Thread nD τ) (ms0_13 t) fullShare X)
      ∗ (∃ X, ⌜afterRel m c 14 t Y14 X⌝ ∗ owns (c : Thread nD τ) (ms0_14 t) fullShare X))) := by
  unfold bodyAt0 PhiT
  have hN : t.val < 64 := Nat.lt_of_lt_of_eq t.isLt N_0
  by_cases h0 : t.val % 64 = 63
  · have hc : cond0_0 (grid0.coords t) := (hcond0_0 t).mpr h0
    have h64 : ∀ {α : Type} {W : ℕ} {v : Fin cfg0.N → (⟨2, ![1, W]⟩ : Shape).Idx → α} (X : (⟨2, ![64, W]⟩ : Shape).Idx → α),
        TabOK v (t.val + 1) X → TabOK v 64 X := fun {α W v} X h => by
      have : t.val + 1 = 64 := by omega
      rwa [this] at h
    iintro ⟨⟨⟨⟨%e0, %he0, HS0⟩, ⟨%e1, %he1, HS1⟩, ⟨%e2, %he2, HS2⟩, ⟨%e3, %he3, HS3⟩⟩, Hg⟩, Ho, H0, H1, H2, H3, H4, H5, H6, H7, H8, H9, H10, H11, H12, H13, H14⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) hc (iblk m c 0 t) (iblk m c 1 t) (iblk m c 2 t) (iblk m c 3 t) (iblk m c 4 t) (iblk m c 5 t) (iblk m c 6 t) (iblk m c 7 t) Y9 Y10 e0 e1 e2 e3)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]
        · iexists _; isplitr; swap; · iexact HS0
          ipureintro; exact TabOK.step t he0 (k0_off1_inb _) (k0_off1_eq _)
        isplitl [HS1]
        · iexists _; isplitr; swap; · iexact HS1
          ipureintro; exact TabOK.step t he1 (k0_off2_inb _) (k0_off2_eq _)
        isplitl [HS2]
        · iexists _; isplitr; swap; · iexact HS2
          ipureintro; exact TabOK.step t he2 (k0_off3_inb _) (k0_off3_eq _)
        iexists _; isplitr; swap; · iexact HS3
        ipureintro; exact TabOK.step t he3 (k0_off2_inb _) (k0_off2_eq _)
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact fun h => TabOK.step t h (k0_off1_inb _) (k0_off1_eq _)
    isplitl [H10]
    · iexists _; isplitr; swap; · iexact H10
      ipureintro; exact fun h => TabOK.step t h (k0_off1_inb _) (k0_off1_eq _)
    isplitl [H11]
    · iexists _; isplitr; swap; · iexact H11
      ipureintro; exact fun _ => ⟨_, h64 _ (TabOK.step t he0 (k0_off1_inb _) (k0_off1_eq _)), rfl⟩
    isplitl [H12]
    · iexists _; isplitr; swap; · iexact H12
      ipureintro; exact fun _ => ⟨_, h64 _ (TabOK.step t he1 (k0_off2_inb _) (k0_off2_eq _)), rfl⟩
    isplitl [H13]
    · iexists _; isplitr; swap; · iexact H13
      ipureintro; exact fun _ => ⟨_, h64 _ (TabOK.step t he2 (k0_off3_inb _) (k0_off3_eq _)), rfl⟩
    iexists _; isplitr; swap; · iexact H14
    ipureintro; exact fun _ => ⟨_, h64 _ (TabOK.step t he3 (k0_off2_inb _) (k0_off2_eq _)), rfl⟩
  · have hc : ¬cond0_0 (grid0.coords t) := fun h => h0 ((hcond0_0 t).mp h)
    iintro ⟨⟨⟨⟨%e0, %he0, HS0⟩, ⟨%e1, %he1, HS1⟩, ⟨%e2, %he2, HS2⟩, ⟨%e3, %he3, HS3⟩⟩, Hg⟩, Ho, H0, H1, H2, H3, H4, H5, H6, H7, H8, H9, H10, H11, H12, H13, H14⟩
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) hc (iblk m c 0 t) (iblk m c 1 t) (iblk m c 2 t) (iblk m c 3 t) (iblk m c 4 t) (iblk m c 5 t) (iblk m c 6 t) (iblk m c 7 t) Y9 Y10 e0 e1 e2 e3)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, ⟨%x11, H11⟩, ⟨%x12, H12⟩, ⟨%x13, H13⟩, ⟨%x14, H14⟩, HS0, HS1, HS2, HS3⟩
    isplitl [HS0 HS1 HS2 HS3 Hg]
    · isplitl [HS0 HS1 HS2 HS3]
      · isplitl [HS0]
        · iexists _; isplitr; swap; · iexact HS0
          ipureintro; exact TabOK.step t he0 (k0_off1_inb _) (k0_off1_eq _)
        isplitl [HS1]
        · iexists _; isplitr; swap; · iexact HS1
          ipureintro; exact TabOK.step t he1 (k0_off2_inb _) (k0_off2_eq _)
        isplitl [HS2]
        · iexists _; isplitr; swap; · iexact HS2
          ipureintro; exact TabOK.step t he2 (k0_off3_inb _) (k0_off3_eq _)
        iexists _; isplitr; swap; · iexact HS3
        ipureintro; exact TabOK.step t he3 (k0_off2_inb _) (k0_off2_eq _)
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact fun h => TabOK.step t h (k0_off1_inb _) (k0_off1_eq _)
    isplitl [H10]
    · iexists _; isplitr; swap; · iexact H10
      ipureintro; exact fun h => TabOK.step t h (k0_off1_inb _) (k0_off1_eq _)
    isplitl [H11]
    · iexists _; isplitr; swap; · iexact H11
      ipureintro; exact fun h => absurd h h0
    isplitl [H12]
    · iexists _; isplitr; swap; · iexact H12
      ipureintro; exact fun h => absurd h h0
    isplitl [H13]
    · iexists _; isplitr; swap; · iexact H13
      ipureintro; exact fun h => absurd h h0
    iexists _; isplitr; swap; · iexact H14
    ipureintro; exact fun h => absurd h h0

/-- The library's body obligation, at every point. -/
theorem body_obligation (c : Dev nD) : (rdat (F := F) m c).BodyObligation (defs₀ (F := F)) Variants.none () Set.univ := fun t Y hY => by
  rw [bigSep_W0, bigSep_W0, defs₀_row]
  have e := sound_body m c t (Y 8) (Y 9) (Y 10) (Y 11) (Y 12) (Y 13) (Y 14)
  rw [← finds_0 m c t _ (hY 0)] at e
  rw [← finds_1 m c t _ (hY 1)] at e
  rw [← finds_2 m c t _ (hY 2)] at e
  rw [← finds_3 m c t _ (hY 3)] at e
  rw [← finds_4 m c t _ (hY 4)] at e
  rw [← finds_5 m c t _ (hY 5)] at e
  rw [← finds_6 m c t _ (hY 6)] at e
  rw [← finds_7 m c t _ (hY 7)] at e
  exact triple_restated e rfl .rfl fun _ => .rfl

/-! ## The run -/

theorem phi_in (c : Dev nD) : Pipeline.ΦA spec0 c ⊢ (rdat (F := F) m c).Φ 0 := by
  rw [PhiA0_eq]
  show _ ⊢ PhiT m c 0
  unfold PhiT
  iintro ⟨⟨⟨%d0, H0⟩, ⟨%d1, H1⟩, ⟨%d2, H2⟩, ⟨%d3, H3⟩⟩, Hg⟩
  isplitr [Hg]
  · isplitl [H0]
    · iexists _; isplitr; swap; · iexact H0
      ipureintro; exact TabOK.zero _ _
    isplitl [H1]
    · iexists _; isplitr; swap; · iexact H1
      ipureintro; exact TabOK.zero _ _
    isplitl [H2]
    · iexists _; isplitr; swap; · iexact H2
      ipureintro; exact TabOK.zero _ _
    iexists _; isplitr; swap; · iexact H3
    ipureintro; exact TabOK.zero _ _
  iexact Hg

theorem phi_out (c : Dev nD) : (rdat (F := F) m c).Φ (Fin.last cfg0.N) ⊢ Pipeline.ΦA spec0 c := by
  rw [PhiA0_eq]
  show PhiT m c cfg0.N ⊢ _
  unfold PhiT
  iintro ⟨⟨⟨%d0, -, H0⟩, ⟨%d1, -, H1⟩, ⟨%d2, -, H2⟩, ⟨%d3, -, H3⟩⟩, Hg⟩
  isplitr [Hg]
  · isplitl [H0]
    · iexists _; iexact H0
    isplitl [H1]
    · iexists _; iexact H1
    isplitl [H2]
    · iexists _; iexact H2
    iexists _; iexact H3
  iexact Hg

set_option backward.isDefEq.respectTransparency.types false in
/-- The run: at the end every array is at contents the relation allows, every semaphore counter at zero. -/
theorem run_main_quiescent : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := phi_in m) (hout := phi_out m)

end Cert.KernelIdeal.Hand

end
-- ==== Proof.KFrame.lean ====
/- The argument arrays end as they began, and the semaphore counters at zero: read off the run's post. -/
module

public import proofs.«01_k».proof.Proof.Data
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the run's post says of the argument arrays. -/
theorem args_of (r : PUnit × _) (h : Pipeline.RDat.FramePost (cfgs 0) (fun c => rdat m c) (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h.1 c 1 rfl).trans ((A_eq m c 1).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    (Pipeline.RDat.FramePost.arr_in h.1 c 5 rfl).trans ((A_eq m c 5).trans (V_main_arg5 m c)),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩

/-- The frame of the idealized kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_of m r h c, h.2⟩) (run_main_quiescent m ρ)

end Cert.KernelIdeal.Hand

end
-- ==== Proof.Claims.lean ====
/- The claims that say nothing of values: the frames of the four programs, and the two named constants. -/
module

public import proofs.«01_k».proof.Defs
public import proofs.«01_k».proof.Proof.KernFrame
public import proofs.«01_k».proof.Proof.Gen.Reference.Frame
public import proofs.«01_k».proof.Proof.Gen.ReferenceIdeal.Frame
public import proofs.«01_k».proof.Proof.KFrame

@[expose] public section

noncomputable section

namespace Cert.Hand

open Idealize.ShloMosaic Idealize.SL.Sem

attribute [local instance] Cert.Kernel.Gen.facts Cert.KernelIdeal.Gen.facts Cert.ReferenceIdeal.Gen.facts Cert.Reference.Gen.facts

theorem frame_Kernel : Cert.quiescent_Kernel := fun m ρ _ => Cert.Kernel.Hand.frame m ρ
theorem frame_KernelIdeal : Cert.quiescent_KernelIdeal := fun m ρ _ => Cert.KernelIdeal.Hand.frame m ρ
theorem frame_ReferenceIdeal : Cert.quiescent_ReferenceIdeal := fun m ρ _ => Cert.ReferenceIdeal.Gen.frame m ρ
theorem frame_Reference : Cert.quiescent_Reference := fun m ρ _ => Cert.Reference.Gen.frame m ρ

/-- The kernel's named constant is `1/3136`. -/
theorem preserves_Kernel : Cert.preserves_Kernel_KernelIdeal :=
  IdealRules.named_const.statement Cert.KernelIdeal.κ "inv_seq" .f32 0x39A72F05#32 ((3136⁻¹ : ℝ) : EReal) rfl

/-- The reference's named constant is `log 2`. -/
theorem preserves_Reference : Cert.preserves_Reference_ReferenceIdeal :=
  IdealRules.named_const.statement Cert.ReferenceIdeal.κ "ln_2" .f32 0x3F317218#32 ((Real.log 2 : ℝ) : EReal) rfl

end Cert.Hand

end
-- ==== Proof.Exponent.lean ====
/- The exponent of the quantiser. The kernel finds it bit by bit, comparing with the floats whose exponent field is the
   candidate; the reference takes the floor of the binary logarithm. Both are `expo`, on the extended reals. -/
module

public import Idealize.ShloMosaic.PureOps.Ideal

@[expose] public section

noncomputable section

namespace Cert.Hand

open Idealize.ShloMosaic

/-- The quantiser's exponent: the `e` with `2^(e-1) ≤ t < 2^e` where `t` lies between `2^-126` and `2^120`, else zero. -/
def expo (t : EReal) : ℤ :=
  open Classical in if (((2 : ℝ) ^ (-126 : ℤ) : ℝ) : EReal) ≤ t ∧ t < (((2 : ℝ) ^ (120 : ℤ) : ℝ) : EReal) then ⌊Real.log t.toReal / Real.log 2⌋ + 1 else 0

/-- The power of two with exponent `e`, as an extended real. -/
def p2 (e : ℤ) : EReal := (((2 : ℝ) ^ e : ℝ) : EReal)

theorem p2_nonneg (e : ℤ) : 0 ≤ p2 e := EReal.coe_nonneg.mpr (by positivity)

/-- The float whose exponent field is `n` and whose other bits are zero. -/
def thr (n : ℕ) : EReal := Ideal.ofBits .f32 (BitVec.ofNat 32 (n * 2 ^ 23))

theorem thr_eq (n : ℕ) (h1 : 1 ≤ n) (h2 : n ≤ 254) : thr n = p2 ((n : ℤ) - 127) := by
  have hw : ∀ k : Fin 256, ((BitVec.ofNat 32 (k.val * 2 ^ 23)).extractLsb' 31 1 = 0#1)
      ∧ ((BitVec.ofNat 32 (k.val * 2 ^ 23)).extractLsb' 23 8).toNat = k.val
      ∧ ((BitVec.ofNat 32 (k.val * 2 ^ 23)).extractLsb' 0 23).toNat = 0 := by decide +kernel
  obtain ⟨ha, hb, hc⟩ := hw ⟨n, by omega⟩
  simp only at ha hb hc
  unfold thr p2 Ideal.ofBits Ideal.ieee
  have hne : n ≠ 255 := by omega
  have hn0 : n ≠ 0 := by omega
  simp only [show (8 + 23 : ℕ) = 31 from rfl, ha, hb, hc]
  simp only [show (2 : ℕ) ^ 8 - 1 = 255 from rfl, hne, hn0, if_false, show ((0#1 : BitVec 1) == 1#1) = false from rfl]
  congr 1
  simp only [Bool.false_eq_true, if_false, one_mul, add_zero]
  push_cast
  rw [show (8388608 : ℝ) = 2 ^ (23 : ℤ) by norm_num, ← zpow_add₀ (by norm_num)]
  congr 1; push_cast; ring

theorem thr_zero : thr 0 = 0 := by
  simp [thr, Ideal.ofBits, Ideal.ieee]

theorem thr_top : thr 255 = ⊤ := by
  unfold thr Ideal.ofBits Ideal.ieee
  have ha : (BitVec.ofNat 32 (255 * 2 ^ 23)).extractLsb' 31 1 = 0#1 := by decide +kernel
  have hb : ((BitVec.ofNat 32 (255 * 2 ^ 23)).extractLsb' 23 8).toNat = 255 := by decide +kernel
  have hc : ((BitVec.ofNat 32 (255 * 2 ^ 23)).extractLsb' 0 23).toNat = 0 := by decide +kernel
  simp [ha, hb, hc]

/-- The comparison the kernel makes. -/
theorem cmp_oge (x y : EReal) : Ideal.cmp .oge x y = 1 ↔ y ≤ x := by
  by_cases h : y ≤ x <;> simp [Ideal.cmp, h]

/-- One bit of the search. -/
def bstep (t : EReal) (bit c : BitVec 32) : BitVec 32 :=
  Scalar.select (Ideal.cmp .oge t (Ideal.ofBits .f32 (IntOp.shli .vector (IntOp.addi c bit) 23#32))) (IntOp.addi c bit) c

/-- The eight bits. -/
def bsearch (t : EReal) : BitVec 32 :=
  bstep t 1#32 (bstep t 2#32 (bstep t 4#32 (bstep t 8#32 (bstep t 16#32 (bstep t 32#32 (bstep t 64#32 (bstep t 128#32 0#32)))))))

/-- The exponent, out of the biased exponent the search found. -/
def bfinish (t : EReal) (c : BitVec 32) : BitVec 32 :=
  let v := Scalar.select (Ideal.cmp .oge t (Ideal.ofBits .f32 0x7B800000#32)) 255#32 c
  Scalar.select (IntOp.andi (IntOp.cmpi .ne v 0#32) (IntOp.cmpi .ne v 255#32)) (IntOp.subi v 126#32) 0#32

/-- The kernel's exponent word. -/
def bexp (t : EReal) : BitVec 32 := bfinish t (bsearch t)

theorem shl_word : ∀ n : Fin 256, IntOp.shli .vector (BitVec.ofNat 32 n.val) 23#32 = BitVec.ofNat 32 (n.val * 2 ^ 23) := by
  decide +kernel

/-- One step keeps the bracket `thr n ≤ t < thr (n + 2^k)`, halving it. -/
theorem bstep_spec (t : EReal) (b n : ℕ) (hn : n + 2 * b ≤ 256) (hb : 0 < b) (hlo : thr n ≤ t) (hhi : n + 2 * b ≤ 255 → t < thr (n + 2 * b)) :
    ∃ n', n' + b ≤ 256 ∧ bstep t (BitVec.ofNat 32 b) (BitVec.ofNat 32 n) = BitVec.ofNat 32 n' ∧ thr n' ≤ t ∧ (n' + b ≤ 255 → t < thr (n' + b)) := by
  have hadd : IntOp.addi (BitVec.ofNat 32 n) (BitVec.ofNat 32 b) = BitVec.ofNat 32 (n + b) := by
    unfold IntOp.addi; rw [BitVec.ofNat_add]
  have hs : IntOp.shli .vector (BitVec.ofNat 32 (n + b)) 23#32 = BitVec.ofNat 32 ((n + b) * 2 ^ 23) := shl_word ⟨n + b, by omega⟩
  unfold bstep
  rw [hadd, hs]
  unfold Scalar.select
  by_cases h : thr (n + b) ≤ t
  · refine ⟨n + b, by omega, ?_, h, fun h2 => ?_⟩
    · exact if_pos ((cmp_oge _ _).mpr h)
    · have := hhi (by omega)
      rwa [show n + b + b = n + 2 * b by omega]
  · refine ⟨n, by omega, ?_, hlo, fun _ => not_le.mp h⟩
    exact if_neg (fun hc => h ((cmp_oge _ _).mp hc))

/-- The search ends with the biased exponent. -/
theorem bsearch_spec (t : EReal) (ht : 0 ≤ t) :
    ∃ n, n ≤ 255 ∧ bsearch t = BitVec.ofNat 32 n ∧ thr n ≤ t ∧ (n + 1 ≤ 255 → t < thr (n + 1)) := by
  obtain ⟨n1, a1, e1, l1, h1⟩ := bstep_spec t 128 0 (by omega) (by omega) (by rw [thr_zero]; exact ht) (by omega)
  obtain ⟨n2, a2, e2, l2, h2⟩ := bstep_spec t 64 n1 (by omega) (by omega) l1 h1
  obtain ⟨n3, a3, e3, l3, h3⟩ := bstep_spec t 32 n2 (by omega) (by omega) l2 h2
  obtain ⟨n4, a4, e4, l4, h4⟩ := bstep_spec t 16 n3 (by omega) (by omega) l3 h3
  obtain ⟨n5, a5, e5, l5, h5⟩ := bstep_spec t 8 n4 (by omega) (by omega) l4 h4
  obtain ⟨n6, a6, e6, l6, h6⟩ := bstep_spec t 4 n5 (by omega) (by omega) l5 h5
  obtain ⟨n7, a7, e7, l7, h7⟩ := bstep_spec t 2 n6 (by omega) (by omega) l6 h6
  obtain ⟨n8, a8, e8, l8, h8⟩ := bstep_spec t 1 n7 (by omega) (by omega) l7 h7
  refine ⟨n8, by omega, ?_, l8, h8⟩
  unfold bsearch
  rw [← e8, ← e7, ← e6, ← e5, ← e4, ← e3, ← e2, ← e1]

theorem thr247 : Ideal.ofBits .f32 0x7B800000#32 = p2 120 := by
  have : thr 247 = p2 ((247 : ℕ) - 127) := thr_eq 247 (by omega) (by omega)
  exact this

theorem thr1 : Ideal.ofBits .f32 0x00800000#32 = p2 (-126) := by
  have : thr 1 = p2 ((1 : ℕ) - 127) := thr_eq 1 (by omega) (by omega)
  exact this

/-- A real between two neighbouring powers of two has the floor of its binary logarithm between them. -/
theorem floor_log (r : ℝ) (k : ℤ) (h1 : (2 : ℝ) ^ k ≤ r) (h2 : r < (2 : ℝ) ^ (k + 1)) : ⌊Real.log r / Real.log 2⌋ = k := by
  have hr : 0 < r := lt_of_lt_of_le (by positivity) h1
  have hl : 0 < Real.log 2 := Real.log_pos (by norm_num)
  rw [Int.floor_eq_iff]
  constructor
  · rw [le_div_iff₀ hl, ← Real.log_zpow]; exact Real.log_le_log (by positivity) h1
  · rw [div_lt_iff₀ hl, show (k : ℝ) + 1 = ((k + 1 : ℤ) : ℝ) by push_cast; ring, ← Real.log_zpow]
    exact Real.log_lt_log hr h2

theorem p2_mono {a b : ℤ} (h : a ≤ b) : p2 a ≤ p2 b :=
  EReal.coe_le_coe_iff.mpr (zpow_le_zpow_right₀ (by norm_num) h)

theorem expo_of (t : EReal) (k : ℤ) (hk : -126 ≤ k) (hk' : k ≤ 119) (h1 : p2 k ≤ t) (h2 : t < p2 (k + 1)) : expo t = k + 1 := by
  have hc : (((2 : ℝ) ^ (-126 : ℤ) : ℝ) : EReal) ≤ t ∧ t < (((2 : ℝ) ^ (120 : ℤ) : ℝ) : EReal) :=
    ⟨(p2_mono hk).trans h1, lt_of_lt_of_le h2 (p2_mono (by omega))⟩
  unfold expo
  rw [if_pos hc]
  have hb : t ≠ ⊥ := fun h => by rw [h] at h1; exact absurd h1 (by simp [p2])
  have ht : t ≠ ⊤ := fun h => by rw [h] at h2; exact absurd h2 (by simp)
  lift t to ℝ using ⟨ht, hb⟩
  rw [EReal.toReal_coe, floor_log t k (EReal.coe_le_coe_iff.mp h1) (EReal.coe_lt_coe_iff.mp h2)]

theorem expo_range (t : EReal) : -125 ≤ expo t ∧ expo t ≤ 120 := by
  unfold expo
  split
  · rename_i h
    obtain ⟨h1, h2⟩ := h
    have hb : t ≠ ⊥ := fun h => by rw [h] at h1; exact absurd h1 (by simp)
    have ht : t ≠ ⊤ := fun h => by rw [h] at h2; exact absurd h2 (by simp)
    lift t to ℝ using ⟨ht, hb⟩
    have h1 := EReal.coe_le_coe_iff.mp h1
    have h2 := EReal.coe_lt_coe_iff.mp h2
    have hr : 0 < t := lt_of_lt_of_le (by positivity) h1
    have hl : 0 < Real.log 2 := Real.log_pos (by norm_num)
    rw [EReal.toReal_coe]
    constructor
    · have : (-126 : ℤ) ≤ ⌊Real.log t / Real.log 2⌋ := by
        rw [Int.le_floor, le_div_iff₀ hl, ← Real.log_zpow]; exact Real.log_le_log (by positivity) h1
      omega
    · have : ⌊Real.log t / Real.log 2⌋ < (120 : ℤ) := by
        rw [Int.floor_lt, div_lt_iff₀ hl, ← Real.log_zpow]; exact Real.log_lt_log hr h2
      omega
  · omega

/-- What the kernel's word is: the exponent, in two's complement. -/
theorem bexp_eq (t : EReal) (ht : 0 ≤ t) : bexp t = BitVec.ofInt 32 (expo t) := by
  obtain ⟨n, hn, hs, hlo, hhi⟩ := bsearch_spec t ht
  unfold bexp
  rw [hs]
  unfold bfinish
  rw [thr247]
  by_cases h120 : p2 120 ≤ t
  · have he : expo t = 0 := by
      unfold expo; rw [if_neg (fun h => absurd h.2 (not_lt.mpr h120))]
    rw [he]
    simp only [Scalar.select, if_pos ((cmp_oge _ _).mpr h120)]
    decide
  · have hlt := not_le.mp h120
    simp only [Scalar.select, if_neg (fun hc => h120 ((cmp_oge _ _).mp hc))]
    have hn246 : n ≤ 246 := by
      by_contra hc
      have h : p2 120 ≤ thr n := by
        rcases Nat.lt_or_ge n 255 with h | h
        · rw [thr_eq n (by omega) (by omega)]; exact p2_mono (by omega)
        · rw [show n = 255 by omega, thr_top]; exact le_top
      exact h120 (h.trans hlo)
    by_cases h0 : n = 0
    · subst h0
      have : t < p2 (-126) := by
        have := hhi (by omega)
        rwa [thr_eq 1 (by omega) (by omega)] at this
      have he : expo t = 0 := by
        unfold expo; rw [if_neg (fun h => absurd h.1 (not_le.mpr this))]
      rw [he]; decide
    · have h1 := hlo
      rw [thr_eq n (by omega) (by omega)] at h1
      have h2 := hhi (by omega)
      rw [thr_eq (n + 1) (by omega) (by omega)] at h2
      have he : expo t = ((n : ℤ) - 127) + 1 := expo_of t _ (by omega) (by omega) h1 (by
        rw [show (n : ℤ) - 127 + 1 = ((n + 1 : ℕ) : ℤ) - 127 by push_cast; ring]; exact h2)
      rw [he]
      have hw : ∀ k : Fin 255, k.val ≠ 0 → (if IntOp.andi (IntOp.cmpi .ne (BitVec.ofNat 32 k.val) 0#32) (IntOp.cmpi .ne (BitVec.ofNat 32 k.val) 255#32) = 1
          then IntOp.subi (BitVec.ofNat 32 k.val) 126#32 else 0#32) = BitVec.ofInt 32 ((k.val : ℤ) - 127 + 1) := by decide +kernel
      exact hw ⟨n, by omega⟩ h0

/-- The float made from an exponent word is the power of two. -/
theorem pow_word (e : ℤ) (h1 : -125 ≤ e) (h2 : e ≤ 125) :
    Ideal.ofBits .f32 (IntOp.shli .vector (IntOp.addi (BitVec.ofInt 32 e) 127#32) 23#32) = p2 e := by
  have hw : ∀ k : Fin 251, IntOp.shli .vector (IntOp.addi (BitVec.ofInt 32 ((k.val : ℤ) - 125)) 127#32) 23#32 = BitVec.ofNat 32 ((k.val + 2) * 2 ^ 23) := by
    decide +kernel
  obtain ⟨k, rfl⟩ : ∃ k : ℕ, e = (k : ℤ) - 125 := ⟨(e + 125).toNat, by omega⟩
  have := hw ⟨k, by omega⟩
  simp only at this
  rw [this]
  have h := thr_eq (k + 2) (by omega) (by omega)
  unfold thr at h
  rw [h]; congr 1; push_cast; ring

theorem neg_word (e : ℤ) (h1 : -125 ≤ e) (h2 : e ≤ 125) : IntOp.subi 0#32 (BitVec.ofInt 32 e) = BitVec.ofInt 32 (-e) := by
  unfold IntOp.subi
  rw [BitVec.ofInt_neg, BitVec.zero_sub]

/-- The kernel's scale. -/
theorem kscale (t : EReal) (ht : 0 ≤ t) : Ideal.ofBits .f32 (IntOp.shli .vector (IntOp.addi (bexp t) 127#32) 23#32) = p2 (expo t) := by
  rw [bexp_eq t ht]; exact pow_word _ (expo_range t).1 (by have := (expo_range t).2; omega)

/-- The kernel's inverse scale. -/
theorem kinv (t : EReal) (ht : 0 ≤ t) :
    Ideal.ofBits .f32 (IntOp.shli .vector (IntOp.addi (IntOp.subi 0#32 (bexp t)) 127#32) 23#32) = p2 (-expo t) := by
  have h := expo_range t
  rw [bexp_eq t ht, neg_word _ h.1 (by omega)]; exact pow_word _ (by omega) (by omega)

/-- The reference's exponent, as an extended real. -/
def rexp (t : EReal) : EReal :=
  Scalar.select (IntOp.andi (Ideal.cmp .oge t (Ideal.ofBits .f32 0x00800000#32)) (Ideal.cmp .olt t (Ideal.ofBits .f32 0x7B800000#32)))
    (Ideal.liftRound Int.floor (Ideal.div (Ideal.log t) ((Real.log 2 : ℝ) : EReal)) + Ideal.ofBits .f32 0x3F800000#32) (Ideal.ofBits .f32 0x00000000#32)

theorem ofBits_zero : Ideal.ofBits .f32 0x00000000#32 = 0 := by
  have := thr_zero; unfold thr at this; exact this

theorem ofBits_one : Ideal.ofBits .f32 0x3F800000#32 = 1 := by
  have h : thr 127 = p2 ((127 : ℕ) - 127) := thr_eq 127 (by omega) (by omega)
  have h' : Ideal.ofBits .f32 0x3F800000#32 = p2 ((127 : ℕ) - 127) := h
  rw [h']; simp [p2]

/-- The reference's exponent is `expo`. -/
theorem rexp_eq (t : EReal) : rexp t = ((expo t : ℝ) : EReal) := by
  unfold rexp
  rw [thr1, thr247, ofBits_zero, ofBits_one]
  have e1 : Ideal.cmp .oge t (p2 (-126)) = BitVec.ofBool (decide (p2 (-126) ≤ t)) := rfl
  have e2 : Ideal.cmp .olt t (p2 120) = BitVec.ofBool (decide (t < p2 120)) := rfl
  rw [e1, e2]
  by_cases h1 : p2 (-126) ≤ t
  · by_cases h2 : t < p2 120
    · have hc : (((2 : ℝ) ^ (-126 : ℤ) : ℝ) : EReal) ≤ t ∧ t < (((2 : ℝ) ^ (120 : ℤ) : ℝ) : EReal) := ⟨h1, h2⟩
      have hs : IntOp.andi (BitVec.ofBool (decide (p2 (-126) ≤ t))) (BitVec.ofBool (decide (t < p2 120))) = 1 := by
        simp only [h1, h2, decide_true]; decide
      unfold Scalar.select
      rw [if_pos hs]
      unfold expo
      rw [if_pos hc]
      have hb : t ≠ ⊥ := fun h => by rw [h] at h1; exact absurd h1 (by simp [p2])
      have ht : t ≠ ⊤ := fun h => by rw [h] at h2; exact absurd h2 (by simp)
      lift t to ℝ using ⟨ht, hb⟩
      have hr : 0 < t := lt_of_lt_of_le (by positivity) (EReal.coe_le_coe_iff.mp h1)
      have hl : Real.log 2 ≠ 0 := (Real.log_pos (by norm_num)).ne'
      have hlog : Ideal.log (t : EReal) = ((Real.log t : ℝ) : EReal) := by
        show (if t ≤ 0 then (⊥ : EReal) else _) = _
        rw [if_neg (not_le.mpr hr)]
      have hdiv : Ideal.div ((Real.log t : ℝ) : EReal) ((Real.log 2 : ℝ) : EReal) = ((Real.log t / Real.log 2 : ℝ) : EReal) := by
        unfold Ideal.div
        rw [if_neg (by simpa using hl), ← EReal.coe_inv, ← EReal.coe_mul, div_eq_mul_inv]
      rw [hlog, hdiv, Ideal.liftRound_coe, EReal.toReal_coe]
      push_cast
      rfl
    · have hs : IntOp.andi (BitVec.ofBool (decide (p2 (-126) ≤ t))) (BitVec.ofBool (decide (t < p2 120))) ≠ 1 := by
        simp only [h2, decide_false]; unfold IntOp.andi; simp
      unfold Scalar.select
      rw [if_neg hs]
      unfold expo
      rw [if_neg (fun h => h2 h.2)]; simp
  · have hs : IntOp.andi (BitVec.ofBool (decide (p2 (-126) ≤ t))) (BitVec.ofBool (decide (t < p2 120))) ≠ 1 := by
      simp only [h1, decide_false]; unfold IntOp.andi; simp
    unfold Scalar.select
    rw [if_neg hs]
    unfold expo
    rw [if_neg (fun h => h1 h.1)]; simp

theorem exp2_int (e : ℤ) : Ideal.exp2 (((e : ℤ) : ℝ) : EReal) = p2 e := by
  show ((Real.rpow 2 (e : ℝ) : ℝ) : EReal) = _
  unfold p2; congr 1; exact Real.rpow_intCast 2 e

/-- The reference's scale and inverse scale. -/
theorem rscale (t : EReal) : Ideal.exp2 (rexp t) = p2 (expo t) := by rw [rexp_eq, exp2_int]

theorem rinv (t : EReal) : Ideal.exp2 (-rexp t) = p2 (-expo t) := by
  rw [rexp_eq, ← EReal.coe_neg, ← Int.cast_neg, exp2_int]

end Cert.Hand

end
-- ==== Proof.Spec.lean ====
/- The squeeze and excitation of one image on the extended reals, with the quantisation of the pooled vector, of the
   hidden vector and of the scaled image; and the few facts of the extended reals by which the two programs meet it. -/
module

public import proofs.«01_k».proof.Proof.Exponent

@[expose] public section

noncomputable section

namespace Cert.Hand

open Idealize.ShloMosaic

/-- The absolute value. -/
def mag (x : EReal) : EReal := max x (-x)

theorem mag_eq (x : EReal) : mag x = (x.abs : EReal) := by
  unfold mag
  induction x using EReal.rec with
  | bot => simp
  | top => simp
  | coe x => rw [EReal.abs_def, EReal.coe_ennreal_ofReal, max_eq_left (abs_nonneg x), abs_eq_max_neg]; rfl

theorem mag_nonneg (x : EReal) : 0 ≤ mag x := by rw [mag_eq]; exact EReal.coe_ennreal_nonneg _

theorem mag_mul (x y : EReal) : mag (x * y) = mag x * mag y := by
  simp only [mag_eq, EReal.abs_mul, EReal.coe_ennreal_mul]

theorem mag_of_nonneg {x : EReal} (h : 0 ≤ x) : mag x = x := by
  unfold mag; exact max_eq_left (le_trans (EReal.neg_le_zero.mpr h) h)

/-- The reciprocal of the greatest finite code, 448, as the programs spell it. -/
def r448 : EReal := Ideal.ofBits .f32 0x3B124925#32

theorem r448_nonneg : 0 ≤ r448 := by
  unfold r448 Ideal.ofBits Ideal.ieee
  have ha : (0x3B124925#32).extractLsb' 31 1 = 0#1 := by decide +kernel
  have hb : ((0x3B124925#32).extractLsb' 23 8).toNat = 118 := by decide +kernel
  simp only [show (8 + 23 : ℕ) = 31 from rfl, ha, hb]
  simp only [show (2 : ℕ) ^ 8 - 1 = 255 from rfl, show ((0#1 : BitVec 1) == 1#1) = false from rfl]
  simp only [show ¬ (118 = 255) by decide, show ¬ (118 = 0) by decide, if_false, Bool.false_eq_true]
  exact EReal.coe_nonneg.mpr (by positivity)

/-- The exponent of the scale of values of which the greatest absolute value is `a`. -/
def exA (a : EReal) : ℤ := expo (a * r448)

/-- The code of `v` under the scale with exponent `e`. -/
def code (v : EReal) (e : ℤ) : EReal :=
  min (Ideal.ofBits .f32 0x43E00000#32) (max (Ideal.ofBits .f32 0xC3E00000#32) (v * p2 (-e)))

/-- The greatest absolute value of a row. -/
def top {n : ℕ} (f : Fin n → EReal) : EReal := Finset.univ.sup fun i => mag (f i)

theorem ofBits_bot : Ideal.ofBits .f32 0xFF800000#32 = ⊥ := by
  unfold Ideal.ofBits Ideal.ieee
  have ha : (0xFF800000#32).extractLsb' 31 1 = 1#1 := by decide +kernel
  have hb : ((0xFF800000#32).extractLsb' 23 8).toNat = 255 := by decide +kernel
  have hc : ((0xFF800000#32).extractLsb' 0 23).toNat = 0 := by decide +kernel
  simp [ha, hb, hc]

/-- The programs' maximum over a row, from minus infinity. -/
theorem fold_sup {n : ℕ} (f : Fin n → EReal) : Finset.fold max (Ideal.ofBits .f32 0xFF800000#32) f Finset.univ = Finset.univ.sup f := by
  rw [ofBits_bot]; rfl

theorem top_nonneg {n : ℕ} (i : Fin n) (f : Fin n → EReal) : 0 ≤ top f :=
  le_trans (mag_nonneg (f i)) (Finset.le_sup (f := fun i => mag (f i)) (Finset.mem_univ i))

theorem top_mul {n : ℕ} (i : Fin n) (f : Fin n → EReal) (k : EReal) : top (fun i => f i * k) = mag (top f * k) := by
  rw [mag_mul, mag_of_nonneg (top_nonneg i f)]
  obtain ⟨j, -, hj⟩ := Finset.exists_mem_eq_sup Finset.univ ⟨i, Finset.mem_univ i⟩ (fun i => mag (f i))
  apply le_antisymm
  · refine Finset.sup_le fun s _ => ?_
    rw [mag_mul]
    exact mul_le_mul_of_nonneg_right (Finset.le_sup (f := fun i => mag (f i)) (Finset.mem_univ s)) (mag_nonneg k)
  · unfold top
    rw [hj, ← mag_mul]
    exact Finset.le_sup (f := fun i => mag (f i * k)) (Finset.mem_univ j)

theorem exA_nonneg {n : ℕ} (i : Fin n) (f : Fin n → EReal) : 0 ≤ top f * r448 := mul_nonneg (top_nonneg i f) r448_nonneg

section
variable (xs : EReal) (x : Fin 3136 → Fin 256 → EReal) (w1 : Fin 256 → Fin 16 → EReal) (w1s b1 : Fin 16 → EReal)
  (w2 : Fin 16 → Fin 256 → EReal) (w2s b2 : Fin 256 → EReal)

/-- The mean of the image over its positions, in the values' own scale. -/
def pooled (c : Fin 256) : EReal := (∑ s, x s c) * (xs * ((3136⁻¹ : ℝ) : EReal))

def pE : ℤ := exA (top (pooled xs x))
def pC (c : Fin 256) : EReal := code (pooled xs x c) (pE xs x)

/-- The hidden vector. -/
def hid (j : Fin 16) : EReal := max ((∑ c, pC xs x c * w1 c j) * p2 (pE xs x) * w1s j + b1 j) 0

def hE : ℤ := exA (top (hid xs x w1 w1s b1))
def hC (j : Fin 16) : EReal := code (hid xs x w1 w1s b1 j) (hE xs x w1 w1s b1)

/-- The gate of a channel. -/
def gate (c : Fin 256) : EReal :=
  Ideal.logistic ((∑ j, hC xs x w1 w1s b1 j * w2 j c) * p2 (hE xs x w1 w1s b1) * w2s c + b2 c)

/-- The exponent of a channel's scale: the greatest absolute value over the positions. -/
def yE (c : Fin 256) : ℤ := exA (top fun s => x s c * (xs * gate xs x w1 w1s b1 w2 w2s b2 c))

/-- The code of an element of the scaled image. -/
def yC (s : Fin 3136) (c : Fin 256) : EReal :=
  code (x s c * (xs * gate xs x w1 w1s b1 w2 w2s b2 c)) (yE xs x w1 w1s b1 w2 w2s b2 c)

end

end Cert.Hand

end
-- ==== Proof.Res.lean ====
/- The layer's inputs as plain functions, and its seven results as plain functions of them. -/
module

public import proofs.«01_k».proof.Proof.Spec

@[expose] public section

noncomputable section

namespace Cert.Hand

open Idealize.ShloMosaic

/-- The eight inputs: the activations' scale, the batch of activation codes, and the two linear maps (codes, scale per output, bias). -/
structure Params where
  xs : EReal
  x : Fin 64 → Fin 3136 → Fin 256 → EReal
  w1 : Fin 256 → Fin 16 → EReal
  w1s : Fin 16 → EReal
  b1 : Fin 16 → EReal
  w2 : Fin 16 → Fin 256 → EReal
  w2s : Fin 256 → EReal
  b2 : Fin 256 → EReal

namespace Params

variable (P : Params)

/-- The scaled activations' codes. -/
def y (i : (⟨3, ![64, 3136, 256]⟩ : Shape).Idx) : EReal := yC P.xs (P.x (i 0)) P.w1 P.w1s P.b1 P.w2 P.w2s P.b2 (i 1) (i 2)
/-- Their scales, one per image and channel. -/
def ys (i : (⟨2, ![64, 256]⟩ : Shape).Idx) : EReal := p2 (yE P.xs (P.x (i 0)) P.w1 P.w1s P.b1 P.w2 P.w2s P.b2 (i 1))
/-- The gate. -/
def g (i : (⟨2, ![64, 256]⟩ : Shape).Idx) : EReal := gate P.xs (P.x (i 0)) P.w1 P.w1s P.b1 P.w2 P.w2s P.b2 (i 1)
/-- The pooled vectors' codes. -/
def p (i : (⟨2, ![64, 256]⟩ : Shape).Idx) : EReal := pC P.xs (P.x (i 0)) (i 1)
/-- Their scales, one per image. -/
def ps (i : (⟨2, ![1, 64]⟩ : Shape).Idx) : EReal := p2 (pE P.xs (P.x (i 1)))
/-- The hidden vectors' codes. -/
def h (i : (⟨2, ![64, 16]⟩ : Shape).Idx) : EReal := hC P.xs (P.x (i 0)) P.w1 P.w1s P.b1 (i 1)
/-- Their scales, one per image. -/
def hs (i : (⟨2, ![1, 64]⟩ : Shape).Idx) : EReal := p2 (hE P.xs (P.x (i 1)) P.w1 P.w1s P.b1)

end Params

end Cert.Hand

end
-- ==== Proof.RefValue.lean ====
/- The reference's values, element by element: each row of its 64 images is the layer of that image. -/
module

public import proofs.«01_k».proof.Proof.Spec
public import proofs.«01_k».proof.Proof.Gen.ReferenceIdeal.Frame
public import Idealize.ShloMosaic.Lib.Pointwise
public import Idealize.ShloMosaic.Lib.Pipeline.ReadBack

@[expose] public section

set_option maxRecDepth 16384

noncomputable section

namespace Cert.Hand.Ref

open Cert.ReferenceIdeal Cert.ReferenceIdeal.Gen
open Idealize.ShloMosaic

theorem absf_eq (a : EReal) : FloatOps.absf (F := Ideal) (φ := .f32) a = mag a := rfl

theorem ofBits_3136 : Ideal.ofBits .f32 0x45440000#32 = ((3136 : ℝ) : EReal) := by
  unfold Ideal.ofBits Ideal.ieee
  have ha : (0x45440000#32).extractLsb' 31 1 = 0#1 := by decide +kernel
  have hb : ((0x45440000#32).extractLsb' 23 8).toNat = 138 := by decide +kernel
  have hc : ((0x45440000#32).extractLsb' 0 23).toNat = 4456448 := by decide +kernel
  simp only [show (8 + 23 : ℕ) = 31 from rfl, ha, hb, hc]
  simp only [show (2 : ℕ) ^ 8 - 1 = 255 from rfl, show ((0#1 : BitVec 1) == 1#1) = false from rfl]
  simp only [show ¬ (138 = 255) by decide, show ¬ (138 = 0) by decide, if_false, Bool.false_eq_true]
  congr 1
  norm_num

/-- Multiplying by a mean over 3136 values, in either order. -/
theorem mean_mul (s k : EReal) : Ideal.div s (Ideal.ofBits .f32 0x45440000#32) * k = s * (k * ((3136⁻¹ : ℝ) : EReal)) := by
  rw [ofBits_3136, Ideal.div_coe (by norm_num), one_div, mul_assoc, mul_comm k]

/-- The reference's exponent, as its program spells it at one element. -/
theorem rexp_form (t : EReal) : Scalar.select
      (IntOp.andi (BitVec.ofBool (decide (Ideal.ofBits .f32 0x00800000#32 ≤ t))) (BitVec.ofBool (decide (t < Ideal.ofBits .f32 0x7B800000#32))))
      (Ideal.liftRound Int.floor (Ideal.div (Ideal.log t) (Named.named (F := Ideal) (φ := .f32) κ "ln_2" 0x3F317218#32)) + 1) (0 : EReal) = rexp t := by
  have h : Named.named (F := Ideal) (φ := .f32) κ "ln_2" 0x3F317218#32 = ((Real.log 2 : ℝ) : EReal) :=
    IdealRules.named_const.ideal_named_scalar κ "ln_2" _ _ rfl
  rw [h, ← ofBits_one, ← ofBits_zero]
  rfl

/-- The exponent of a fold of maxima. -/
theorem rexp_fold {n : ℕ} (f : Fin n → EReal) :
    rexp (Finset.fold max (Ideal.ofBits .f32 0xFF800000#32) (fun i => mag (f i)) Finset.univ * Ideal.ofBits .f32 0x3B124925#32) = rexp (top f * r448) :=
  congrArg (fun k : EReal => rexp (k * r448)) (fold_sup _)

/-- The codes, as the reference's program spells them at one element. -/
theorem code_form (v t : EReal) : min (Ideal.ofBits .f32 0x43E00000#32) (max (Ideal.ofBits .f32 0xC3E00000#32) (v * Ideal.exp2 (0 - rexp t))) = code v (expo t) := by
  rw [zero_sub, rinv]
  rfl

/-- Image `t` of the batch, as a function of position and channel. -/
def rimg (x : Vec Ideal S64x3136x256 .fp8e4m3) (t : Fin 64) (s : Fin 3136) (c : Fin 256) : EReal := x (ix3 t s c)

variable (x0 : Vec Ideal S64x3136x256 .fp8e4m3) (x1 : Vec Ideal S1x1 .f32) (x2 : Vec Ideal S256x16 .fp8e4m3) (x3 x4 : Vec Ideal S1x16 .f32)
  (x5 : Vec Ideal S16x256 .fp8e4m3) (x6 x7 : Vec Ideal S1x256 .f32) (t : Fin 64)

/-- The layer's values for image `t` of the blocks. -/
def rpE : ℤ := pE (x1 (ix2 0 0)) (rimg x0 t)
def rpC (c : Fin 256) : EReal := pC (x1 (ix2 0 0)) (rimg x0 t) c
def rhid (j : Fin 16) : EReal := hid (x1 (ix2 0 0)) (rimg x0 t) (fun c j => x2 (ix2 c j)) (fun j => x3 (ix2 0 j)) (fun j => x4 (ix2 0 j)) j
def rhE : ℤ := hE (x1 (ix2 0 0)) (rimg x0 t) (fun c j => x2 (ix2 c j)) (fun j => x3 (ix2 0 j)) (fun j => x4 (ix2 0 j))
def rhC (j : Fin 16) : EReal := hC (x1 (ix2 0 0)) (rimg x0 t) (fun c j => x2 (ix2 c j)) (fun j => x3 (ix2 0 j)) (fun j => x4 (ix2 0 j)) j
def rgate (c : Fin 256) : EReal := gate (x1 (ix2 0 0)) (rimg x0 t) (fun c j => x2 (ix2 c j)) (fun j => x3 (ix2 0 j)) (fun j => x4 (ix2 0 j))
  (fun j c => x5 (ix2 j c)) (fun c => x6 (ix2 0 c)) (fun c => x7 (ix2 0 c)) c
def ryE (c : Fin 256) : ℤ := yE (x1 (ix2 0 0)) (rimg x0 t) (fun c j => x2 (ix2 c j)) (fun j => x3 (ix2 0 j)) (fun j => x4 (ix2 0 j))
  (fun j c => x5 (ix2 j c)) (fun c => x6 (ix2 0 c)) (fun c => x7 (ix2 0 c)) c
def ryC (s : Fin 3136) (c : Fin 256) : EReal := yC (x1 (ix2 0 0)) (rimg x0 t) (fun c j => x2 (ix2 c j)) (fun j => x3 (ix2 0 j)) (fun j => x4 (ix2 0 j))
  (fun j c => x5 (ix2 j c)) (fun c => x6 (ix2 0 c)) (fun c => x7 (ix2 0 c)) s c

theorem pay6_apply (c : Fin 256) : k0_pay6 (F := Ideal) x1 x0 (ix2 t c) = pooled (x1 (ix2 0 0)) (rimg x0 t) c := by
  pointwise [k0_pay6, k0_pay5, k0_pay4]
  exact mean_mul _ _

theorem pay7_apply : k0_pay7 (F := Ideal) x1 x0 (ix2 t 0) = rexp (top (pooled (x1 (ix2 0 0)) (rimg x0 t)) * r448) := by
  pointwise [k0_pay7]
  simp only [pay6_apply, absf_eq]
  exact (rexp_form _).trans (rexp_fold _)

/-- The pooled vector's codes. -/
theorem pay8_apply (c : Fin 256) : k0_pay8 (F := Ideal) x1 x0 (ix2 t c) = rpC x0 x1 t c := by
  pointwise [k0_pay8]
  simp only [pay6_apply, pay7_apply]
  exact code_form _ _

/-- The pooled vector's scale. -/
theorem pay9_apply : k0_pay9 (F := Ideal) x1 x0 (ix2 t 0) = p2 (rpE x0 x1 t) := by
  pointwise [k0_pay9]
  simp only [pay7_apply]
  exact rscale _

theorem pay11_apply (j : Fin 16) : k0_pay11 (F := Ideal) (k0_pay9 x1 x0) (k0_pay10 x1 x0 x2) x3 x4 (ix2 t j) = rhid x0 x1 x2 x3 x4 t j := by
  pointwise [k0_pay11, k0_pay10]
  simp only [pay8_apply, pay9_apply]
  rfl

theorem pay12_apply : k0_pay12 (F := Ideal) (k0_pay9 x1 x0) (k0_pay10 x1 x0 x2) x3 x4 (ix2 t 0) = rexp (top (rhid x0 x1 x2 x3 x4 t) * r448) := by
  pointwise [k0_pay12]
  simp only [pay11_apply, absf_eq]
  exact (rexp_form _).trans (rexp_fold _)

/-- The hidden vector's codes. -/
theorem pay13_apply (j : Fin 16) : k0_pay13 (F := Ideal) (k0_pay9 x1 x0) (k0_pay10 x1 x0 x2) x3 x4 (ix2 t j) = rhC x0 x1 x2 x3 x4 t j := by
  pointwise [k0_pay13]
  simp only [pay11_apply, pay12_apply]
  exact code_form _ _

/-- The hidden vector's scale. -/
theorem pay14_apply : k0_pay14 (F := Ideal) (k0_pay9 x1 x0) (k0_pay10 x1 x0 x2) x3 x4 (ix2 t 0) = p2 (rhE x0 x1 x2 x3 x4 t) := by
  pointwise [k0_pay14]
  simp only [pay12_apply]
  exact rscale _

/-- The gate. -/
theorem pay15_apply (c : Fin 256) : k0_pay15 (F := Ideal) (k0_pay13 (k0_pay9 x1 x0) (k0_pay10 x1 x0 x2) x3 x4) (k0_pay14 (k0_pay9 x1 x0) (k0_pay10 x1 x0 x2) x3 x4)
    x5 (constant S64x256 .f32 0x00000000#32) x6 x7 (ix2 t c) = rgate x0 x1 x2 x3 x4 x5 x6 x7 t c := by
  pointwise [k0_pay15]
  simp only [pay13_apply, pay14_apply]
  rfl

theorem pay16_apply (s : Fin 3136) (c : Fin 256) : k0_pay16 (F := Ideal) (k0_pay4 x1) (k0_pay5 x0) (k0_pay13 (k0_pay9 x1 x0) (k0_pay10 x1 x0 x2) x3 x4)
    (k0_pay14 (k0_pay9 x1 x0) (k0_pay10 x1 x0 x2) x3 x4) x5 (constant S64x256 .f32 0x00000000#32) x6 x7 (ix3 t s c)
    = rimg x0 t s c * (x1 (ix2 0 0) * rgate x0 x1 x2 x3 x4 x5 x6 x7 t c) := by
  pointwise [k0_pay16, k0_pay4, k0_pay5]
  simp only [pay15_apply]
  exact mul_assoc _ _ _

end Cert.Hand.Ref

end
-- ==== Proof.RefScaled.lean ====
/- The reference's scaled image, and the seven results of its body, element by element. -/
module

public import proofs.«01_k».proof.Proof.RefValue

@[expose] public section

set_option maxRecDepth 16384

noncomputable section

namespace Cert.Hand.Ref

open Cert.ReferenceIdeal Cert.ReferenceIdeal.Gen
open Idealize.ShloMosaic

/-! ## The steps on a whole batch -/

/-- The largest magnitude of each channel. -/
def vtop (w : FVec Ideal S64x3136x256 .f32) : FVec Ideal S64x256 .f32 :=
  multiReduction .maximumf [1] S64x256 (absf w) 0xFF800000#32 reduces_S64x3136x256_S64x256 (.inl rfl) rfl

theorem vtop_apply (w : FVec Ideal S64x3136x256 .f32) (t : Fin 64) (c : Fin 256) : vtop w (ix2 t c) = top fun s => w (ix3 t s c) := by
  pointwise [vtop]
  simp only [absf_eq]
  exact fold_sup _

/-- The largest magnitude over the largest code. -/
def vword (v : FVec Ideal S64x256 .f32) : FVec Ideal S64x1x256 .f32 :=
  mulf (shapeCast S64x1x256 v shapeCasts_S64x256_S64x1x256) (broadcast S64x1x256 (Scalar.ofBits .f32 0x3B124925#32))

theorem vword_apply (v : FVec Ideal S64x256 .f32) (t : Fin 64) (c : Fin 256) : vword v (ix3 t 0 c) = v (ix2 t c) * r448 := by
  pointwise [vword]
  rfl

/-- The exponent of each channel. -/
def vrexp (T : FVec Ideal S64x1x256 .f32) : FVec Ideal S64x1x256 .f32 :=
  select (andi (cmpf .oge T (broadcast S64x1x256 (Scalar.ofBits .f32 0x00800000#32))) (cmpf .olt T (broadcast S64x1x256 (Scalar.ofBits .f32 0x7B800000#32))))
    (addf (floor (divf (log T) (broadcast S64x1x256 (Named.named κ "ln_2" 0x3F317218#32)))) (broadcast S64x1x256 (Scalar.ofBits .f32 0x3F800000#32)))
    (broadcast S64x1x256 (Scalar.ofBits .f32 0x00000000#32))

theorem vrexp_apply (T : FVec Ideal S64x1x256 .f32) (t : Fin 64) (c : Fin 256) : vrexp T (ix3 t 0 c) = rexp (T (ix3 t 0 c)) := by
  pointwise [vrexp]
  exact rexp_form _

/-- The codes of each channel. -/
def vcode (w : FVec Ideal S64x3136x256 .f32) (u : FVec Ideal S64x1x256 .f32) : FVec Ideal S64x3136x256 .fp8e4m3 :=
  truncf .fp8e4m3 (minimumf (broadcast S64x3136x256 (Scalar.ofBits .f32 0x43E00000#32)) (maximumf (broadcast S64x3136x256 (Scalar.ofBits .f32 0xC3E00000#32))
    (mulf w (broadcastTo S64x3136x256 (exp2 (subf (broadcast S64x1x256 (Scalar.ofBits .f32 0x00000000#32)) u)) broadcasts_S64x1x256_S64x3136x256)))) bitsLt_fp8e4m3_f32

theorem vcode_apply (w : FVec Ideal S64x3136x256 .f32) (u : FVec Ideal S64x1x256 .f32) (t : Fin 64) (s : Fin 3136) (c : Fin 256) : vcode w u (ix3 t s c) =
    min (Ideal.ofBits .f32 0x43E00000#32) (max (Ideal.ofBits .f32 0xC3E00000#32) (w (ix3 t s c) * Ideal.exp2 (0 - u (ix3 t 0 c)))) := by
  pointwise [vcode]
  rfl

section
variable (v1 : FVec Ideal S1x1 .f32) (v3 : FVec Ideal S64x3136x256 .f32) (v79 : FVec Ideal S64x16 .fp8e4m3) (v80 : FVec Ideal S64x1 .f32)
  (v81 : Vec Ideal S16x256 .fp8e4m3) (z : FVec Ideal S64x256 .f32) (v85 v89 : Vec Ideal S1x256 .f32) (t : Fin 64) (c : Fin 256) (f : Fin 3136 → EReal)

theorem pay17_eq : k0_pay17 v1 v3 v79 v80 v81 z v85 v89 = vrexp (vword (vtop (k0_pay16 v1 v3 v79 v80 v81 z v85 v89))) := rfl

theorem pay18_eq : k0_pay18 v1 v3 v79 v80 v81 z v85 v89 = vcode (k0_pay16 v1 v3 v79 v80 v81 z v85 v89) (k0_pay17 v1 v3 v79 v80 v81 z v85 v89) := rfl

/-- The scale's exponent of a channel, out of the channel's values. -/
theorem pay17_of (h : ∀ s, k0_pay16 v1 v3 v79 v80 v81 z v85 v89 (ix3 t s c) = f s) :
    k0_pay17 v1 v3 v79 v80 v81 z v85 v89 (ix3 t 0 c) = rexp (top f * r448) := by
  rw [pay17_eq, vrexp_apply, vword_apply, vtop_apply, funext h]

/-- The codes of a channel, out of the channel's values and exponent. -/
theorem pay18_of (s : Fin 3136) (v e : EReal) (h : k0_pay16 v1 v3 v79 v80 v81 z v85 v89 (ix3 t s c) = v)
    (h' : k0_pay17 v1 v3 v79 v80 v81 z v85 v89 (ix3 t 0 c) = rexp e) :
    k0_pay18 v1 v3 v79 v80 v81 z v85 v89 (ix3 t s c) = code v (expo e) := by
  rw [pay18_eq, vcode_apply, h, h']
  exact code_form _ _

theorem pay1_apply (u : FVec Ideal S64x1x256 .f32) : k0_pay1 u (ix2 t c) = Ideal.exp2 (u (ix3 t 0 c)) := by
  pointwise [k0_pay1]
  rfl

end

variable (x0 : Vec Ideal S64x3136x256 .fp8e4m3) (x1 : Vec Ideal S1x1 .f32) (x2 : Vec Ideal S256x16 .fp8e4m3) (x3 x4 : Vec Ideal S1x16 .f32)
  (x5 : Vec Ideal S16x256 .fp8e4m3) (x6 x7 : Vec Ideal S1x256 .f32) (t : Fin 64)

theorem ld0 : View.ld x1 r0_0 = x1 := View.ld_unit_lit _ _ (by decide)
theorem ld1 : View.ld x0 r0_1 = x0 := View.ld_unit_lit _ _ (by decide)
theorem ld2 : View.ld x2 r0_2 = x2 := View.ld_unit_lit _ _ (by decide)
theorem ld3 : View.ld x3 r0_3 = x3 := View.ld_unit_lit _ _ (by decide)
theorem ld4 : View.ld x5 r0_4 = x5 := View.ld_unit_lit _ _ (by decide)
theorem ld5 : View.ld x6 r0_5 = x6 := View.ld_unit_lit _ _ (by decide)

theorem out8_apply (s : Fin 3136) (c : Fin 256) : out0_8 (F := Ideal) x0 x1 x2 x3 x4 x5 x6 x7 (ix3 t s c) = ryC x0 x1 x2 x3 x4 x5 x6 x7 t s c := by
  unfold out0_8
  rw [View.canon_cons_unit_lit _ _ _ (by decide)]
  simp only [k0_pay19, k0_pay20, k0_pay21, k0_pay22, k0_pay23, k0_pay24, k0_pay25, ld0, ld1, ld2, ld3, ld4, ld5]
  exact pay18_of _ _ _ _ _ _ _ _ t c s _ _ (pay16_apply ..) (pay17_of _ _ _ _ _ _ _ _ t c _ fun s => pay16_apply ..)

theorem out9_apply (c : Fin 256) : out0_9 (F := Ideal) x0 x1 x2 x3 x4 x5 x6 x7 (ix2 t c) = p2 (ryE x0 x1 x2 x3 x4 x5 x6 x7 t c) := by
  unfold out0_9
  rw [View.canon_cons_unit_lit _ _ _ (by decide)]
  simp only [k0_pay19, k0_pay20, k0_pay21, k0_pay22, k0_pay23, k0_pay24, k0_pay25, ld0, ld1, ld2, ld3, ld4, ld5]
  rw [pay1_apply, pay17_of _ _ _ _ _ _ _ _ t c _ fun s => pay16_apply x0 x1 x2 x3 x4 x5 x6 x7 t s c]
  exact rscale _

theorem out10_apply (c : Fin 256) : out0_10 (F := Ideal) x0 x1 x2 x3 x4 x5 x6 x7 (ix2 t c) = rgate x0 x1 x2 x3 x4 x5 x6 x7 t c := by
  unfold out0_10
  rw [View.canon_cons_unit_lit _ _ _ (by decide)]
  simp only [k0_pay19, k0_pay20, k0_pay21, k0_pay22, k0_pay23, k0_pay24, k0_pay25, ld0, ld1, ld2, ld3, ld4, ld5]
  exact pay15_apply ..

theorem out11_apply (c : Fin 256) : out0_11 (F := Ideal) x0 x1 x2 x3 x4 x5 x6 x7 (ix2 t c) = rpC x0 x1 t c := by
  unfold out0_11
  rw [View.canon_cons_unit_lit _ _ _ (by decide)]
  simp only [ld0, ld1, ld2, ld3, ld4, ld5]
  exact pay8_apply ..

theorem out12_apply (z : Fin 1) : out0_12 (F := Ideal) x0 x1 x2 x3 x4 x5 x6 x7 (ix2 z t) = p2 (rpE x0 x1 t) := by
  unfold out0_12
  rw [View.canon_cons_unit_lit _ _ _ (by decide)]
  simp only [k0_pay21, ld0, ld1, ld2, ld3, ld4, ld5]
  pointwise [k0_pay2]
  simp only [pay9_apply]

theorem out13_apply (j : Fin 16) : out0_13 (F := Ideal) x0 x1 x2 x3 x4 x5 x6 x7 (ix2 t j) = rhC x0 x1 x2 x3 x4 t j := by
  unfold out0_13
  rw [View.canon_cons_unit_lit _ _ _ (by decide)]
  simp only [k0_pay21, k0_pay22, k0_pay24, ld0, ld1, ld2, ld3, ld4, ld5]
  exact pay13_apply ..

theorem out14_apply (z : Fin 1) : out0_14 (F := Ideal) x0 x1 x2 x3 x4 x5 x6 x7 (ix2 z t) = p2 (rhE x0 x1 x2 x3 x4 t) := by
  unfold out0_14
  rw [View.canon_cons_unit_lit _ _ _ (by decide)]
  simp only [k0_pay21, k0_pay22, k0_pay25, ld0, ld1, ld2, ld3, ld4, ld5]
  pointwise [k0_pay3]
  simp only [pay14_apply]

end Cert.Hand.Ref

end
-- ==== Proof.RefRes.lean ====
/- The reference's seven results, out of its arguments. -/
module

public import proofs.«01_k».proof.Proof.Res
public import proofs.«01_k».proof.Proof.RefScaled
public import Idealize.ShloMosaic.Lib.Pipeline.ValueKit
public import Idealize.ShloMosaic.Lib.Claim

@[expose] public section

set_option maxRecDepth 16384

noncomputable section

namespace Cert.Hand.Ref

open Cert.ReferenceIdeal Cert.ReferenceIdeal.Gen
open Idealize.ShloMosaic Idealize.ShloMosaic.TcCoe Idealize.SL.Sem

variable (m : (ℓ : Loc nD τ sig) → Buf (Elt Ideal) ℓ) (c : Dev nD) (t : Fin cfg0.N)

/-- The arguments as plain functions. -/
def par : Params where
  xs := (m ((c : Thread nD τ).loc main_arg1) : Vec Ideal S_ .f32) (fun a => a.elim0)
  x t s k := (m ((c : Thread nD τ).loc main_arg0) : Vec Ideal S64x3136x256 .fp8e4m3) (ix3 t s k)
  w1 k j := (m ((c : Thread nD τ).loc main_arg2) : Vec Ideal S256x16 .fp8e4m3) (ix2 k j)
  w1s j := (m ((c : Thread nD τ).loc main_arg3) : Vec Ideal S16 .f32) (ix1 j)
  b1 j := (m ((c : Thread nD τ).loc main_arg4) : Vec Ideal S16 .f32) (ix1 j)
  w2 j k := (m ((c : Thread nD τ).loc main_arg5) : Vec Ideal S16x256 .fp8e4m3) (ix2 j k)
  w2s k := (m ((c : Thread nD τ).loc main_arg6) : Vec Ideal S256 .f32) (ix1 k)
  b2 k := (m ((c : Thread nD τ).loc main_arg7) : Vec Ideal S256 .f32) (ix1 k)

/-- Every window reads its whole array. -/
theorem idx0 : ∀ a, win0_0.index t0_0 a = 0 := by decide +kernel
theorem idx1 : ∀ a, win0_1.index t0_0 a = 0 := by decide +kernel
theorem idx2 : ∀ a, win0_2.index t0_0 a = 0 := by decide +kernel
theorem idx3 : ∀ a, win0_3.index t0_0 a = 0 := by decide +kernel
theorem idx4 : ∀ a, win0_4.index t0_0 a = 0 := by decide +kernel
theorem idx5 : ∀ a, win0_5.index t0_0 a = 0 := by decide +kernel
theorem idx6 : ∀ a, win0_6.index t0_0 a = 0 := by decide +kernel
theorem idx7 : ∀ a, win0_7.index t0_0 a = 0 := by decide +kernel

theorem blk0 (a : Fin 64) (s : Fin 3136) (k : Fin 256) : iblk m c 0 t (ix3 a s k) = (par m c).x a s k := by
  obtain rfl := fin_N0 t
  unfold par
  blk_ext! [iblk, V, idx0]

theorem blk1 : iblk m c 1 t (ix2 0 0) = (par m c).xs := by
  obtain rfl := fin_N0 t
  unfold par
  blk_ext! [iblk, V, idx1]

theorem blk2 (k : Fin 256) (j : Fin 16) : iblk m c 2 t (ix2 k j) = (par m c).w1 k j := by
  obtain rfl := fin_N0 t
  unfold par
  blk_ext! [iblk, V, idx2]

theorem blk3 (j : Fin 16) : iblk m c 3 t (ix2 0 j) = (par m c).w1s j := by
  obtain rfl := fin_N0 t
  unfold par
  blk_ext! [iblk, V, idx3]

theorem blk4 (j : Fin 16) : iblk m c 4 t (ix2 0 j) = (par m c).b1 j := by
  obtain rfl := fin_N0 t
  unfold par
  blk_ext! [iblk, V, idx4]

theorem blk5 (j : Fin 16) (k : Fin 256) : iblk m c 5 t (ix2 j k) = (par m c).w2 j k := by
  obtain rfl := fin_N0 t
  unfold par
  blk_ext! [iblk, V, idx5]

theorem blk6 (k : Fin 256) : iblk m c 6 t (ix2 0 k) = (par m c).w2s k := by
  obtain rfl := fin_N0 t
  unfold par
  blk_ext! [iblk, V, idx6]

theorem blk7 (k : Fin 256) : iblk m c 7 t (ix2 0 k) = (par m c).b2 k := by
  obtain rfl := fin_N0 t
  unfold par
  blk_ext! [iblk, V, idx7]

/-! ## The layer of the blocks is the layer of the arguments -/

theorem img_eq (a : Fin 64) : rimg (iblk m c 0 t) a = (par m c).x a := by
  funext s k
  exact blk0 m c t a s k

theorem pE_eq (a : Fin 64) : rpE (iblk m c 0 t) (iblk m c 1 t) a = pE (par m c).xs ((par m c).x a) := by
  unfold rpE
  rw [img_eq, blk1]

theorem pC_eq (a : Fin 64) (k : Fin 256) : rpC (iblk m c 0 t) (iblk m c 1 t) a k = pC (par m c).xs ((par m c).x a) k := by
  unfold rpC
  rw [img_eq, blk1]

theorem hE_eq (a : Fin 64) : rhE (iblk m c 0 t) (iblk m c 1 t) (iblk m c 2 t) (iblk m c 3 t) (iblk m c 4 t) a
    = hE (par m c).xs ((par m c).x a) (par m c).w1 (par m c).w1s (par m c).b1 := by
  unfold rhE
  simp only [img_eq, blk1, blk2, blk3, blk4]

theorem hC_eq (a : Fin 64) (j : Fin 16) : rhC (iblk m c 0 t) (iblk m c 1 t) (iblk m c 2 t) (iblk m c 3 t) (iblk m c 4 t) a j
    = hC (par m c).xs ((par m c).x a) (par m c).w1 (par m c).w1s (par m c).b1 j := by
  unfold rhC
  simp only [img_eq, blk1, blk2, blk3, blk4]

theorem gate_eq (a : Fin 64) (k : Fin 256) : rgate (iblk m c 0 t) (iblk m c 1 t) (iblk m c 2 t) (iblk m c 3 t) (iblk m c 4 t) (iblk m c 5 t) (iblk m c 6 t) (iblk m c 7 t) a k
    = gate (par m c).xs ((par m c).x a) (par m c).w1 (par m c).w1s (par m c).b1 (par m c).w2 (par m c).w2s (par m c).b2 k := by
  unfold rgate
  simp only [img_eq, blk1, blk2, blk3, blk4, blk5, blk6, blk7]

theorem yE_eq (a : Fin 64) (k : Fin 256) : ryE (iblk m c 0 t) (iblk m c 1 t) (iblk m c 2 t) (iblk m c 3 t) (iblk m c 4 t) (iblk m c 5 t) (iblk m c 6 t) (iblk m c 7 t) a k
    = yE (par m c).xs ((par m c).x a) (par m c).w1 (par m c).w1s (par m c).b1 (par m c).w2 (par m c).w2s (par m c).b2 k := by
  unfold ryE
  simp only [img_eq, blk1, blk2, blk3, blk4, blk5, blk6, blk7]

theorem yC_eq (a : Fin 64) (s : Fin 3136) (k : Fin 256) : ryC (iblk m c 0 t) (iblk m c 1 t) (iblk m c 2 t) (iblk m c 3 t) (iblk m c 4 t) (iblk m c 5 t) (iblk m c 6 t) (iblk m c 7 t) a s k
    = yC (par m c).xs ((par m c).x a) (par m c).w1 (par m c).w1s (par m c).b1 (par m c).w2 (par m c).w2s (par m c).b2 s k := by
  unfold ryC
  simp only [img_eq, blk1, blk2, blk3, blk4, blk5, blk6, blk7]

/-! ## The seven arrays after the run -/

theorem arr8 : (dats m 0 c).arrAt 8 cfg0.N = (par m c).y := by
  refine (dats m 0 c).arrAt_eq_of_after_last 8 t0_0 (by decide +kernel) _ fun j => ?_
  blk_simp
  rw [after0_8]
  idx_vars j
  refine (out8_apply _ _ _ _ _ _ _ _ _ _ _).trans ?_
  exact yC_eq ..

theorem arr9 : (dats m 0 c).arrAt 9 cfg0.N = (par m c).ys := by
  refine (dats m 0 c).arrAt_eq_of_after_last 9 t0_0 (by decide +kernel) _ fun j => ?_
  blk_simp
  rw [after0_9]
  idx_vars j
  refine (out9_apply _ _ _ _ _ _ _ _ _ _).trans ?_
  exact congrArg p2 (yE_eq ..)

theorem arr10 : (dats m 0 c).arrAt 10 cfg0.N = (par m c).g := by
  refine (dats m 0 c).arrAt_eq_of_after_last 10 t0_0 (by decide +kernel) _ fun j => ?_
  blk_simp
  rw [after0_10]
  idx_vars j
  refine (out10_apply _ _ _ _ _ _ _ _ _ _).trans ?_
  exact gate_eq ..

theorem arr11 : (dats m 0 c).arrAt 11 cfg0.N = (par m c).p := by
  refine (dats m 0 c).arrAt_eq_of_after_last 11 t0_0 (by decide +kernel) _ fun j => ?_
  blk_simp
  rw [after0_11]
  idx_vars j
  refine (out11_apply _ _ _ _ _ _ _ _ _ _).trans ?_
  exact pC_eq ..

theorem arr12 : (dats m 0 c).arrAt 12 cfg0.N = (par m c).ps := by
  refine (dats m 0 c).arrAt_eq_of_after_last 12 t0_0 (by decide +kernel) _ fun j => ?_
  blk_simp
  rw [after0_12]
  idx_vars j
  refine (out12_apply _ _ _ _ _ _ _ _ _ _).trans ?_
  exact congrArg p2 (pE_eq ..)

theorem arr13 : (dats m 0 c).arrAt 13 cfg0.N = (par m c).h := by
  refine (dats m 0 c).arrAt_eq_of_after_last 13 t0_0 (by decide +kernel) _ fun j => ?_
  blk_simp
  rw [after0_13]
  idx_vars j
  refine (out13_apply _ _ _ _ _ _ _ _ _ _).trans ?_
  exact hC_eq ..

theorem arr14 : (dats m 0 c).arrAt 14 cfg0.N = (par m c).hs := by
  refine (dats m 0 c).arrAt_eq_of_after_last 14 t0_0 (by decide +kernel) _ fun j => ?_
  blk_simp
  rw [after0_14]
  idx_vars j
  refine (out14_apply _ _ _ _ _ _ _ _ _ _).trans ?_
  exact congrArg p2 (hE_eq ..)

/-- The run leaves the arguments as they were. -/
theorem args_of (r : PUnit × _) (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

end Cert.Hand.Ref

end
-- ==== Proof.KTotal.lean ====
/- The two passes of the kernel over an image: the sum of every channel, and its greatest absolute value. -/
module

public import proofs.«01_k».proof.Proof.Body
public import proofs.«01_k».proof.Proof.Spec
public import Idealize.ShloMosaic.Lib.Pointwise

@[expose] public section

set_option maxRecDepth 16384

noncomputable section

namespace Cert.Hand

open Cert.KernelIdeal Cert.KernelIdeal.Gen Cert.KernelIdeal.Hand
open Idealize.ShloMosaic

/-- Position `n` of channel `c`, `n` any natural. -/
def pos (x1 : Vec Ideal S1x3136x256 .fp8e4m3) (c : Fin 256) (n : ℕ) : EReal := x1 (ix3 0 (Fin.ofNat 3136 n) c)

theorem pos_at (x1 : Vec Ideal S1x3136x256 .fp8e4m3) (c : Fin 256) (n : ℕ) (h : n < 3136) :
    (x1 (ix3 0 ⟨n, h⟩ c) : EReal) = pos x1 c n := by
  unfold pos; congr 2; apply Fin.ext; simp [Nat.mod_eq_of_lt h]

/-- The sum over the first `n + k` positions, the last `k` as a sum over `Fin k`. -/
theorem sum_more (f : ℕ → EReal) (n k : ℕ) :
    ∑ s ∈ Finset.range n, f s + ∑ x : Fin k, f (n + x.val) = ∑ s ∈ Finset.range (n + k), f s := by
  rw [Finset.sum_range_add, Finset.sum_range (fun i => f (n + i))]

theorem sum_first (f : ℕ → EReal) (k : ℕ) : ∑ x : Fin k, f x.val = ∑ s ∈ Finset.range k, f s := by
  rw [Finset.sum_range]

theorem absf_eq (x : EReal) : (FloatOps.absf (F := Ideal) (φ := .f32) x : EReal) = mag x := rfl

theorem v227_apply (x1 : Vec Ideal S1x3136x256 .fp8e4m3) (j : Fin 16) (c : Fin 256) :
    b_v227 (F := Ideal) x1 (ix2 j c) = ∑ s ∈ Finset.range 2816, pos x1 c s := by
  pointwise [b_v227, b_v183, b_v139, b_v94, b_v73, b_v29, b_v1, k0_pay7, k0_pay8, k0_pay9, k0_pay10, k0_pay14, k0_pay15, k0_pay16,
    k0_pay18, k0_pay19, k0_pay20, k0_pay21, k0_pay22, k0_pay26, k0_pay27, k0_pay28, k0_pay32, k0_pay33, k0_pay34]
  simp only [pos_at, sum_first (pos x1 c) 256, sum_more, Nat.reduceAdd]

/-- The pooled vector. -/
theorem v286_apply (x0 : Vec Ideal S1 .f32) (x1 : Vec Ideal S1x3136x256 .fp8e4m3) (r : Fin 32) (c : Fin 256) :
    b_v286 (F := Ideal) x0 x1 (ix2 r c) = pooled (x0 (ix1 0)) (fun s c => x1 (ix3 0 s c)) c := by
  have hn : (Named.named (F := Ideal) κ "inv_seq" 0x39A72F05#32 : Ideal .f32) = ((3136⁻¹ : ℝ) : EReal) :=
    IdealRules.named_const.ideal_named_scalar κ "inv_seq" _ _ rfl
  pointwise [b_v286, b_v0, b_v1, b_v247, k0_pay39, k0_pay37, k0_pay36, k0_pay7]
  simp only [v227_apply, pos_at, sum_first (pos x1 c) 256, sum_more, Nat.reduceAdd]
  unfold pooled
  rw [Finset.sum_range]
  exact congrArg (fun k : EReal => (∑ i : Fin 3136, pos x1 c i.val) * (x0 (ix1 0) * k)) hn

/-- `M` is, row by row, the greatest of zero and the absolute values of the positions below `32 * n` in that row. -/
def UpTo (x1 : Vec Ideal S1x3136x256 .fp8e4m3) (c : Fin 256) (n : ℕ) (j : Fin 32) (M : EReal) : Prop :=
  ∀ b, M ≤ b ↔ 0 ≤ b ∧ ∀ k < n, mag (pos x1 c (32 * k + j.val)) ≤ b

theorem UpTo.zero (x1 : Vec Ideal S1x3136x256 .fp8e4m3) (c : Fin 256) (j : Fin 32) : UpTo x1 c 0 j 0 :=
  fun b => ⟨fun h => ⟨h, fun k hk => absurd hk (Nat.not_lt_zero k)⟩, fun h => h.1⟩

theorem UpTo.step {x1 : Vec Ideal S1x3136x256 .fp8e4m3} {c : Fin 256} {n : ℕ} {j : Fin 32} {M : EReal} (h : UpTo x1 c n j M)
    (k : ℕ) (hk : k = 32 * n + j.val) : UpTo x1 c (n + 1) j (max M (mag (pos x1 c k))) := fun b => by
  subst hk
  rw [max_le_iff, h b]
  constructor
  · rintro ⟨⟨h0, h1⟩, h2⟩
    refine ⟨h0, fun k hk => ?_⟩
    rcases Nat.lt_succ_iff_lt_or_eq.mp hk with hk | rfl
    · exact h1 k hk
    · exact h2
  · rintro ⟨h0, h1⟩
    exact ⟨⟨h0, fun k hk => h1 k (by omega)⟩, h1 n (by omega)⟩

theorem v245_apply (x1 : Vec Ideal S1x3136x256 .fp8e4m3) (j : Fin 32) (c : Fin 256) :
    UpTo x1 c 88 j (b_v245 (F := Ideal) x1 (ix2 j c)) := by
  pointwise [b_v245, b_v198, b_v197, b_v185, b_v146, b_v145, b_v141, b_v93, b_v91, b_v46, b_v45, k0_pay8, k0_pay9, k0_pay11, k0_pay12, k0_pay13,
    k0_pay14, k0_pay15, k0_pay17, k0_pay18, k0_pay20, k0_pay21, k0_pay23, k0_pay24, k0_pay25, k0_pay26, k0_pay27, k0_pay29, k0_pay30, k0_pay31,
    k0_pay32, k0_pay33, k0_pay35]
  simp only [pos_at, absf_eq]
  repeat' (first | exact UpTo.zero x1 c j | refine UpTo.step (n := _) ?_ _ (by omega))

/-- The greatest absolute values, row by row, over the whole image. -/
theorem rows (x1 : Vec Ideal S1x3136x256 .fp8e4m3) (c : Fin 256) (j : Fin 32) : UpTo x1 c 98 j
    (max (max (max (max (max (max (max (max (max (max (b_v245 (F := Ideal) x1 (ix2 j c)) (mag (pos x1 c (2816 + ↑j))))
      (mag (pos x1 c (2816 + (32 + ↑j))))) (mag (pos x1 c (2816 + (64 + ↑j))))) (mag (pos x1 c (2816 + (96 + ↑j)))))
      (mag (pos x1 c (2816 + (128 + ↑j))))) (mag (pos x1 c (2816 + (160 + ↑j))))) (mag (pos x1 c (2816 + (192 + ↑j)))))
      (mag (pos x1 c (2816 + (224 + ↑j))))) (mag (pos x1 c (3072 + ↑j)))) (mag (pos x1 c (3072 + (32 + ↑j))))) := by
  iterate 10 refine UpTo.step (n := _) ?_ _ (by omega)
  exact v245_apply x1 j c

theorem v280_apply (x1 : Vec Ideal S1x3136x256 .fp8e4m3) (c : Fin 256) :
    b_v280 (F := Ideal) x1 (ix2 0 c) = top fun s => x1 (ix3 0 s c) := by
  pointwise [b_v280, b_v247, k0_pay38, k0_pay37, k0_pay36]
  simp only [pos_at, absf_eq]
  refine (fold_sup _).trans (eq_of_forall_ge_iff fun b => ?_)
  unfold top
  simp only [Finset.sup_le_iff, Finset.mem_univ, forall_true_left]
  constructor
  · intro h s
    have hs := (h ⟨s.val % 32, Nat.mod_lt _ (by decide)⟩)
    rw [rows x1 c _ b] at hs
    have hk := hs.2 (s.val / 32) (by omega)
    rwa [show 32 * (s.val / 32) + s.val % 32 = s.val by omega] at hk
  · intro h j
    rw [rows x1 c j b]
    refine ⟨le_trans (mag_nonneg _) (h 0), fun k hk => ?_⟩
    exact h ⟨32 * k + j.val, by omega⟩

end Cert.Hand

end
-- ==== Proof.KBits.lean ====
/- The kernel's bit by bit search for an exponent, on whole vectors: at every index it is the search on scalars. -/
module

public import proofs.«01_k».proof.Proof.Exponent
public import Idealize.ShloMosaic.Lib.Pointwise

@[expose] public section

noncomputable section

namespace Cert.Hand

open Idealize.ShloMosaic

/-- One bit of the search. -/
def vstep {s : Shape} (t : FVec Ideal s .f32) (bit : BitVec 32) (c : IVec s 32) : IVec s 32 :=
  select (cmpf .oge t (bitcastToFloat .f32 (shli (addi c (broadcast s bit)) (broadcast s 23#32)))) (addi c (broadcast s bit)) c

theorem vstep_apply {s : Shape} (t : FVec Ideal s .f32) (bit : BitVec 32) (c : IVec s 32) (i : s.Idx) :
    vstep t bit c i = bstep (t i) bit (c i) := rfl

/-- Past the greatest exponent the field of infinity. -/
def vcap {s : Shape} (t : FVec Ideal s .f32) (c : IVec s 32) : IVec s 32 :=
  select (cmpf .oge t (broadcast s (Scalar.ofBits .f32 0x7B800000#32 : Ideal .f32))) (broadcast s 255#32) c

/-- The exponent, out of the biased exponent the search found. -/
def vfinish {s : Shape} (v : IVec s 32) : IVec s 32 :=
  select (andi (cmpi .ne v (broadcast s 0#32)) (cmpi .ne v (broadcast s 255#32))) (subi v (broadcast s 126#32)) (broadcast s 0#32)

theorem vfinish_apply {s : Shape} (t : FVec Ideal s .f32) (c : IVec s 32) (i : s.Idx) :
    vfinish (vcap t c) i = bfinish (t i) (c i) := rfl

end Cert.Hand

end
-- ==== Proof.KSqueeze.lean ====
/- The kernel's pooled vector, its quantisation, and the hidden vector. -/
module

public import proofs.«01_k».proof.Proof.KTotal
public import proofs.«01_k».proof.Proof.KBits

@[expose] public section

set_option maxRecDepth 16384

noncomputable section

namespace Cert.Hand

open Cert.KernelIdeal Cert.KernelIdeal.Gen Cert.KernelIdeal.Hand
open Idealize.ShloMosaic

/-- An image as a function of position and channel. -/
def img (x1 : Vec Ideal S1x3136x256 .fp8e4m3) (s : Fin 3136) (c : Fin 256) : EReal := x1 (ix3 0 s c)

variable (x0 : Vec Ideal S1 .f32) (x1 : Vec Ideal S1x3136x256 .fp8e4m3)

theorem v294_apply (r : Fin 32) (l : Fin 128) :
    b_v294 (F := Ideal) x0 x1 (ix2 r l) = top (pooled (x0 (ix1 0)) (img x1)) * r448 := by
  have e : b_v294 (F := Ideal) x0 x1 = k0_pay40 (b_v0 x0) (b_v1 (F := Ideal)) (b_v227 x1) (b_v247 x1) (View.ld x1 (Rect.unit (s := S1x3136x256) ![0, 3072, 0] S1x64x256.size inb_S1x3136x256_S1x64x256_0_3072_0)) := rfl
  rw [e]
  pointwise [k0_pay40]
  have h := v286_apply x0 x1 r
  unfold b_v286 at h
  simp only [h, absf_eq]
  exact congrArg (· * r448) (fold_sup _)

/-- The exponent of the pooled vector's scale, as the kernel finds it. -/
theorem v364_eq (t : FVec Ideal S32x128 .f32) (c : IVec S32x128 32) (b : BitVec 32) :
    k0_pay45 (F := Ideal) t (k0_pay42 t c b) (k0_pay43 t c b) (k0_pay44 t c b) =
      vfinish (vcap t (vstep t 1#32 (vstep t 2#32 (vstep t 4#32 (vstep t 8#32 (vstep t 16#32 (vstep t 32#32 (vstep t 64#32 (vstep t b c))))))))) := rfl

theorem v364_apply (r : Fin 32) (l : Fin 128) :
    k0_pay45 (b_v294 (F := Ideal) x0 x1) (b_v337 x0 x1) (b_v339 x0 x1) (b_v342 x0 x1) (ix2 r l) = bexp (top (pooled (x0 (ix1 0)) (img x1)) * r448) := by
  rw [← v294_apply x0 x1 r l]
  refine (congrFun (v364_eq (b_v294 x0 x1) b_v295 b_c128_i32) _).trans ?_
  simp only [vfinish_apply, vstep_apply]
  rfl

theorem pooled_word : 0 ≤ top (pooled (x0 (ix1 0)) (img x1)) * r448 := exA_nonneg 0 _

/-- The scale of the pooled vector, in every element. -/
theorem v377_apply (r : Fin 32) (l : Fin 128) : b_v377 (F := Ideal) x0 x1 (ix2 r l) = p2 (pE (x0 (ix1 0)) (img x1)) := by
  pointwise [b_v377, k0_pay46]
  simp only [v364_apply]
  exact kscale _ (pooled_word x0 x1)

/-- The codes of the pooled vector, in every row. -/
theorem v384_apply (r : Fin 32) (c : Fin 256) : b_v384 (F := Ideal) x0 x1 (ix2 r c) = pC (x0 (ix1 0)) (img x1) c := by
  pointwise [b_v384, k0_pay47]
  simp only [v364_apply, v286_apply]
  exact congrArg (fun k : EReal => min (Ideal.ofBits .f32 0x43E00000#32) (max (Ideal.ofBits .f32 0xC3E00000#32) (pooled (x0 (ix1 0)) (img x1) c * k)))
    (kinv _ (pooled_word x0 x1))

variable (x2 : Vec Ideal S16x256 .fp8e4m3) (x3 x4 : Vec Ideal S16x1 .f32)

/-- The hidden vector of the blocks. -/
def khid (j : Fin 16) : EReal :=
  hid (x0 (ix1 0)) (img x1) (fun c j => x2 (ix2 j c)) (fun j => x3 (ix2 j 0)) (fun j => x4 (ix2 j 0)) j

theorem v399_apply (j : Fin 16) (r : Fin 32) : b_v399 (F := Ideal) x0 x1 x2 x3 x4 (ix2 j r) = khid x0 x1 x2 x3 x4 j := by
  pointwise [b_v399, b_v385, k0_pay48]
  simp only [v377_apply, v384_apply]
  unfold khid hid
  simp only [mul_comm]

theorem v404_apply (r : Fin 32) : b_v404 (F := Ideal) x0 x1 x2 x3 x4 (ix2 0 r) = top (khid x0 x1 x2 x3 x4) * r448 := by
  pointwise [b_v404, k0_pay49]
  have h := fun j => v399_apply x0 x1 x2 x3 x4 j r
  unfold b_v399 at h
  simp only [h, absf_eq]
  exact congrArg (· * r448) (fold_sup _)

/-- The exponent of the hidden vector's scale, as the kernel finds it. -/
theorem v474_eq (a : FVec Ideal S32x128 .f32) (b : FVec Ideal S32x256 .fp8e4m3) (c : Vec Ideal S16x256 .fp8e4m3) (d e : Vec Ideal S16x1 .f32) :
    k0_pay52 (F := Ideal) (k0_pay49 a b c d e) (k0_pay50 a b c d e) (k0_pay51 a b c d e) 23#32 =
      vfinish (vcap (k0_pay49 a b c d e) (vstep (k0_pay49 a b c d e) 1#32 (vstep (k0_pay49 a b c d e) 2#32 (vstep (k0_pay49 a b c d e) 4#32
        (vstep (k0_pay49 a b c d e) 8#32 (vstep (k0_pay49 a b c d e) 16#32 (vstep (k0_pay49 a b c d e) 32#32 (vstep (k0_pay49 a b c d e) 64#32
          (vstep (k0_pay49 a b c d e) 128#32 (broadcast S1x32 0#32)))))))))) := rfl

theorem v474_apply (r : Fin 32) : b_v474 (F := Ideal) x0 x1 x2 x3 x4 (ix2 0 r) = bexp (top (khid x0 x1 x2 x3 x4) * r448) := by
  rw [← v404_apply x0 x1 x2 x3 x4 r]
  refine (congrFun (v474_eq (b_v377 x0 x1) (b_v384 x0 x1) (b_v385 x2) (View.ld x3 (Rect.unit (s := S16x1) ![0, 0] S16x1.size inb_S16x1_S16x1_0_0))
    (View.ld x4 (Rect.unit (s := S16x1) ![0, 0] S16x1.size inb_S16x1_S16x1_0_0))) _).trans ?_
  simp only [vfinish_apply, vstep_apply]
  rfl

theorem hid_word : 0 ≤ top (khid x0 x1 x2 x3 x4) * r448 := exA_nonneg 0 _

/-- The exponent and the codes of the blocks' hidden vector. -/
def khE : ℤ := hE (x0 (ix1 0)) (img x1) (fun c j => x2 (ix2 j c)) (fun j => x3 (ix2 j 0)) (fun j => x4 (ix2 j 0))
def khC (j : Fin 16) : EReal := hC (x0 (ix1 0)) (img x1) (fun c j => x2 (ix2 j c)) (fun j => x3 (ix2 j 0)) (fun j => x4 (ix2 j 0)) j

/-- The scale of the hidden vector, in every element. -/
theorem v501_apply (r : Fin 32) (l : Fin 128) : b_v501 (F := Ideal) x0 x1 x2 x3 x4 (ix2 r l) = p2 (khE x0 x1 x2 x3 x4) := by
  pointwise [b_v501, k0_pay54, k0_pay53]
  simp only [v474_apply]
  exact kscale _ (hid_word x0 x1 x2 x3 x4)

/-- The codes of the hidden vector, in every row. -/
theorem v503_apply (r : Fin 32) (j : Fin 16) : b_v503 (F := Ideal) x0 x1 x2 x3 x4 (ix2 r j) = khC x0 x1 x2 x3 x4 j := by
  pointwise [b_v503, k0_pay55, k0_pay53]
  simp only [v474_apply, v399_apply]
  exact congrArg (fun k : EReal => min (Ideal.ofBits .f32 0x43E00000#32) (max (Ideal.ofBits .f32 0xC3E00000#32) (khid x0 x1 x2 x3 x4 j * k)))
    (kinv _ (hid_word x0 x1 x2 x3 x4))

end Cert.Hand

end
-- ==== Proof.KGate.lean ====
/- The kernel's gate, the exponents of the scaled image, and the rows of the tables. -/
module

public import proofs.«01_k».proof.Proof.KSqueeze

@[expose] public section

set_option maxRecDepth 16384

noncomputable section

namespace Cert.Hand

open Cert.KernelIdeal Cert.KernelIdeal.Gen Cert.KernelIdeal.Hand
open Idealize.ShloMosaic

variable (x0 : Vec Ideal S1 .f32) (x1 : Vec Ideal S1x3136x256 .fp8e4m3) (x2 : Vec Ideal S16x256 .fp8e4m3) (x3 x4 : Vec Ideal S16x1 .f32)
  (x5 : Vec Ideal S16x256 .fp8e4m3) (x6 x7 : Vec Ideal S1x256 .f32)

/-- The gate of the blocks. -/
def kgate (c : Fin 256) : EReal :=
  gate (x0 (ix1 0)) (img x1) (fun c j => x2 (ix2 j c)) (fun j => x3 (ix2 j 0)) (fun j => x4 (ix2 j 0)) (fun j c => x5 (ix2 j c))
    (fun c => x6 (ix2 0 c)) (fun c => x7 (ix2 0 c)) c

/-- The exponents of the blocks' scaled image. -/
def kyE (c : Fin 256) : ℤ :=
  yE (x0 (ix1 0)) (img x1) (fun c j => x2 (ix2 j c)) (fun j => x3 (ix2 j 0)) (fun j => x4 (ix2 j 0)) (fun j c => x5 (ix2 j c))
    (fun c => x6 (ix2 0 c)) (fun c => x7 (ix2 0 c)) c

theorem v524_apply (c : Fin 256) : b_v524 (F := Ideal) x0 x1 x2 x3 x4 x5 x6 x7 (ix2 0 c) = kgate x0 x1 x2 x3 x4 x5 x6 x7 c := by
  pointwise [b_v524, b_v519, k0_pay57, k0_pay56]
  have h1 := v501_apply x0 x1 x2 x3 x4
  have h2 := v503_apply x0 x1 x2 x3 x4
  unfold b_v501 at h1
  unfold b_v503 at h2
  simp only [h1, h2, zero_sub]
  rfl

theorem v530_apply (c : Fin 256) : b_v530 (F := Ideal) x0 x1 x2 x3 x4 x5 x6 x7 (ix2 0 c) =
    top (fun s => img x1 s c * (x0 (ix1 0) * kgate x0 x1 x2 x3 x4 x5 x6 x7 c)) * r448 := by
  have h := v524_apply x0 x1 x2 x3 x4 x5 x6 x7 c
  unfold b_v524 at h
  pointwise [b_v530, b_v0, k0_pay58]
  simp only [h, v280_apply, absf_eq]
  rw [top_mul 0 (fun s => img x1 s c) (x0 (ix1 0) * kgate x0 x1 x2 x3 x4 x5 x6 x7 c), ← mul_assoc]
  rfl

/-- The exponents of the scaled image, as the kernel finds them. -/
theorem v600_eq (a : Elt Ideal .f32) (b : FVec Ideal S1x256 .f32) (c : FVec Ideal S32x256 .f32) :
    k0_pay62 (F := Ideal) (k0_pay58 a b c) (k0_pay59 a b c) (k0_pay60 a b c) (k0_pay61 a b c) =
      vfinish (vcap (k0_pay58 a b c) (vstep (k0_pay58 a b c) 1#32 (vstep (k0_pay58 a b c) 2#32 (vstep (k0_pay58 a b c) 4#32
        (vstep (k0_pay58 a b c) 8#32 (vstep (k0_pay58 a b c) 16#32 (vstep (k0_pay58 a b c) 32#32 (vstep (k0_pay58 a b c) 64#32
          (vstep (k0_pay58 a b c) 128#32 (broadcast S1x256 0#32)))))))))) := rfl

theorem v600_apply (c : Fin 256) : b_v600 (F := Ideal) x0 x1 x2 x3 x4 x5 x6 x7 (ix2 0 c) =
    bexp (top (fun s => img x1 s c * (x0 (ix1 0) * kgate x0 x1 x2 x3 x4 x5 x6 x7 c)) * r448) := by
  rw [← v530_apply x0 x1 x2 x3 x4 x5 x6 x7 c]
  refine (congrFun (v600_eq (b_v0 x0) (b_v280 x1) (b_v519 x0 x1 x2 x3 x4 x5 x6 x7)) _).trans ?_
  simp only [vfinish_apply, vstep_apply]
  rfl

theorem y_word (c : Fin 256) : 0 ≤ top (fun s => img x1 s c * (x0 (ix1 0) * kgate x0 x1 x2 x3 x4 x5 x6 x7 c)) * r448 := exA_nonneg 0 _

/-- What an element of a channel is multiplied by. -/
theorem v641_apply (c : Fin 256) : b_v641 (F := Ideal) x0 x1 x2 x3 x4 x5 x6 x7 (ix2 0 c) =
    x0 (ix1 0) * kgate x0 x1 x2 x3 x4 x5 x6 x7 c * p2 (-kyE x0 x1 x2 x3 x4 x5 x6 x7 c) := by
  pointwise [b_v641, b_v0, k0_pay68]
  simp only [v600_apply, v524_apply]
  exact congrArg (fun k : EReal => x0 (ix1 0) * kgate x0 x1 x2 x3 x4 x5 x6 x7 c * k) (kinv _ (y_word x0 x1 x2 x3 x4 x5 x6 x7 c))

/-! ## The rows of the tables -/

theorem ysRow_apply (c : Fin 256) : ysRow (F := Ideal) x0 x1 x2 x3 x4 x5 x6 x7 (ix2 0 c) = p2 (kyE x0 x1 x2 x3 x4 x5 x6 x7 c) := by
  have h := v600_apply x0 x1 x2 x3 x4 x5 x6 x7 c
  unfold b_v600 at h
  pointwise [ysRow, k0_pay63]
  simp only [h]
  exact kscale _ (y_word x0 x1 x2 x3 x4 x5 x6 x7 c)

theorem gateRow_apply (c : Fin 256) : gateRow (F := Ideal) x0 x1 x2 x3 x4 x5 x6 x7 (ix2 0 c) = kgate x0 x1 x2 x3 x4 x5 x6 x7 c :=
  v524_apply x0 x1 x2 x3 x4 x5 x6 x7 c

theorem pRow_apply (c : Fin 256) : pRow (F := Ideal) x0 x1 x2 x3 x4 x5 x6 x7 (ix2 0 c) = pC (x0 (ix1 0)) (img x1) c := by
  pointwise [pRow, k0_pay64]
  exact v384_apply x0 x1 0 c

theorem psRow_apply (l : Fin 128) : psRow (F := Ideal) x0 x1 x2 x3 x4 x5 x6 x7 (ix2 0 l) = p2 (pE (x0 (ix1 0)) (img x1)) := by
  pointwise [psRow, k0_pay65]
  exact v377_apply x0 x1 0 l

theorem hRow_apply (j : Fin 16) : hRow (F := Ideal) x0 x1 x2 x3 x4 x5 x6 x7 (ix2 0 j) = khC x0 x1 x2 x3 x4 j := by
  pointwise [hRow, k0_pay66]
  exact v503_apply x0 x1 x2 x3 x4 0 j

theorem hsRow_apply (l : Fin 128) : hsRow (F := Ideal) x0 x1 x2 x3 x4 x5 x6 x7 (ix2 0 l) = p2 (khE x0 x1 x2 x3 x4) := by
  pointwise [hsRow, k0_pay67]
  exact v501_apply x0 x1 x2 x3 x4 0 l

end Cert.Hand

end
-- ==== Proof.KScaled.lean ====
/- The kernel's scaled image: every tile it stores is, element by element, the code of the scaled value. -/
module

public import proofs.«01_k».proof.Proof.KGate
public import Idealize.ShloMosaic.Lib.Pipeline.ReadBack

@[expose] public section

set_option maxRecDepth 16384

noncomputable section

namespace Cert.Hand

open Cert.KernelIdeal Cert.KernelIdeal.Gen Cert.KernelIdeal.Hand
open Idealize.ShloMosaic

variable (x0 : Vec Ideal S1 .f32) (x1 : Vec Ideal S1x3136x256 .fp8e4m3) (x2 : Vec Ideal S16x256 .fp8e4m3) (x3 x4 : Vec Ideal S16x1 .f32)
  (x5 : Vec Ideal S16x256 .fp8e4m3) (x6 x7 : Vec Ideal S1x256 .f32)

/-- An element of the scaled image, out of the channel's multiplier. -/
def scaled (x1 : Vec Ideal S1x3136x256 .fp8e4m3) (mult : FVec Ideal S1x256 .f32) (y : S1x3136x256.Idx) : Elt Ideal .fp8e4m3 :=
  min (Ideal.ofBits .f32 0x43E00000#32) (max (Ideal.ofBits .f32 0xC3E00000#32) ((x1 y : EReal) * (mult (ix2 0 (y 2)) : EReal)) : EReal)

theorem v641_def : k0_pay68 (F := Ideal) (b_v0 x0) (b_v524 x0 x1 x2 x3 x4 x5 x6 x7) (b_v600 x0 x1 x2 x3 x4 x5 x6 x7) = b_v641 x0 x1 x2 x3 x4 x5 x6 x7 := rfl

theorem tile_emb (k : ℕ) (inb : ∀ a, (![0, k, 0] : Fin 3 → ℕ) a + S1x64x256.size a ≤ S1x3136x256.size a) (a : Fin 1) (b : Fin 64) (c : Fin 256) :
    (Rect.unit (s := S1x3136x256) ![0, k, 0] S1x64x256.size inb).emb (ix3 a b c) = ix3 0 ⟨k + b.val, by have := inb 1; have : k + 64 ≤ 3136 := this; omega⟩ c := by
  funext d
  apply Fin.ext
  rw [Rect.emb_apply]
  match d with
  | ⟨0, _⟩ => show 0 + 1 * a.val = 0; omega
  | ⟨1, _⟩ => show k + 1 * b.val = k + b.val; omega
  | ⟨2, _⟩ => show 0 + 1 * c.val = c.val; omega

theorem yPieces_of : View.PiecesOf (scaled x1 (b_v641 x0 x1 x2 x3 x4 x5 x6 x7)) (yPieces (F := Ideal) x0 x1 x2 x3 x4 x5 x6 x7) := by
  unfold yPieces
  simp only [b_v651, b_v685, b_v755, b_v791, b_v792, b_v826, b_v827, b_v898, b_v932, b_v933, b_v968, b_v1005, b_v1041, b_v1075, b_v1145, b_v1181, b_v1182, b_v1216, b_v1217, b_v1270, b_cst_173, b_cst_312, b_cst_391, k0_pay69, v641_def]
  generalize b_v641 (F := Ideal) x0 x1 x2 x3 x4 x5 x6 x7 = mult
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    idx_vars x
    refine Eq.trans ?_ (congrArg (scaled _ mult) (tile_emb _ _ _ _ _).symm)
    pointwise [scaled, k0_pay1, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]

theorem yOut_apply (s : Fin 3136) (c : Fin 256) : yOut (F := Ideal) x0 x1 x2 x3 x4 x5 x6 x7 (ix3 0 s c) =
    code (img x1 s c * (x0 (ix1 0) * kgate x0 x1 x2 x3 x4 x5 x6 x7 c)) (kyE x0 x1 x2 x3 x4 x5 x6 x7 c) := by
  have h := View.canon_append_of_piecesOf _ [] _ (yPieces_of x0 x1 x2 x3 x4 x5 x6 x7) (ix3 0 s c) (yPieces_cover _ _ _ _ _ _ _ _ _)
  rw [List.append_nil] at h
  refine h.trans ?_
  unfold scaled code
  have e := v641_apply x0 x1 x2 x3 x4 x5 x6 x7 c
  refine congrArg (fun k : EReal => min (Ideal.ofBits .f32 0x43E00000#32) (max (Ideal.ofBits .f32 0xC3E00000#32) k)) ?_
  refine (congrArg (fun k : EReal => (x1 (ix3 0 s c) : EReal) * k) e).trans ?_
  rw [← mul_assoc]
  rfl

end Cert.Hand

end
-- ==== Proof.KBlk.lean ====
/- The kernel's blocks at each grid point, out of its arguments: point `t` sees image `t` and the whole of the other inputs. -/
module

public import proofs.«01_k».proof.Proof.Res
public import proofs.«01_k».proof.Proof.KGate
public import proofs.«01_k».proof.Proof.KScaled
public import proofs.«01_k».proof.Proof.Data
public import Idealize.ShloMosaic.Lib.Pipeline.ValueKit
public import Idealize.ShloMosaic.Lib.Claim

@[expose] public section

set_option maxRecDepth 16384

noncomputable section

namespace Cert.Hand

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD) (t : Fin cfg0.N)

/-- The arguments as plain functions. -/
def kpar : Params where
  xs := (m ((c : Thread nD τ).loc main_arg1) : Vec Ideal S_ .f32) (fun a => a.elim0)
  x t s k := (m ((c : Thread nD τ).loc main_arg0) : Vec Ideal S64x3136x256 .fp8e4m3) (ix3 t s k)
  w1 k j := (m ((c : Thread nD τ).loc main_arg2) : Vec Ideal S256x16 .fp8e4m3) (ix2 k j)
  w1s j := (m ((c : Thread nD τ).loc main_arg3) : Vec Ideal S16 .f32) (ix1 j)
  b1 j := (m ((c : Thread nD τ).loc main_arg4) : Vec Ideal S16 .f32) (ix1 j)
  w2 j k := (m ((c : Thread nD τ).loc main_arg5) : Vec Ideal S16x256 .fp8e4m3) (ix2 j k)
  w2s k := (m ((c : Thread nD τ).loc main_arg6) : Vec Ideal S256 .f32) (ix1 k)
  b2 k := (m ((c : Thread nD τ).loc main_arg7) : Vec Ideal S256 .f32) (ix1 k)

/-- The image of point `t`. -/
def imgOf (t : Fin cfg0.N) : Fin 64 := ⟨t.val, lt_of_lt_of_eq t.isLt N_0⟩

/-- The block of every input but the image is the whole array; the image's is image `t`. -/
theorem idx0 : ∀ (t : Fin cfg0.N) a, win0_0.index t a = 0 := by decide +kernel
theorem idx1 : ∀ t : Fin cfg0.N, win0_1.index t 0 = t.val ∧ win0_1.index t 1 = 0 ∧ win0_1.index t 2 = 0 := by decide +kernel
theorem idx2 : ∀ (t : Fin cfg0.N) a, win0_2.index t a = 0 := by decide +kernel
theorem idx3 : ∀ (t : Fin cfg0.N) a, win0_3.index t a = 0 := by decide +kernel
theorem idx4 : ∀ (t : Fin cfg0.N) a, win0_4.index t a = 0 := by decide +kernel
theorem idx5 : ∀ (t : Fin cfg0.N) a, win0_5.index t a = 0 := by decide +kernel
theorem idx6 : ∀ (t : Fin cfg0.N) a, win0_6.index t a = 0 := by decide +kernel
theorem idx7 : ∀ (t : Fin cfg0.N) a, win0_7.index t a = 0 := by decide +kernel

theorem kblk0 : iblk m c 0 t (ix1 0) = (kpar m c).xs := by
  unfold kpar
  blk_ext! [iblk, V, idx0]

theorem kblk1 (s : Fin 3136) (k : Fin 256) : iblk m c 1 t (ix3 0 s k) = (kpar m c).x (imgOf t) s k := by
  unfold kpar
  blk_ext! [iblk, V, (idx1 t).1, (idx1 t).2.1, (idx1 t).2.2, imgOf]

theorem kblk2 (j : Fin 16) (k : Fin 256) : iblk m c 2 t (ix2 j k) = (kpar m c).w1 k j := by
  unfold kpar
  blk_ext! [iblk, V, idx2]

theorem kblk3 (j : Fin 16) : iblk m c 3 t (ix2 j 0) = (kpar m c).w1s j := by
  unfold kpar
  blk_ext! [iblk, V, idx3]

theorem kblk4 (j : Fin 16) : iblk m c 4 t (ix2 j 0) = (kpar m c).b1 j := by
  unfold kpar
  blk_ext! [iblk, V, idx4]

theorem kblk5 (j : Fin 16) (k : Fin 256) : iblk m c 5 t (ix2 j k) = (kpar m c).w2 j k := by
  unfold kpar
  blk_ext! [iblk, V, idx5]

theorem kblk6 (k : Fin 256) : iblk m c 6 t (ix2 0 k) = (kpar m c).w2s k := by
  unfold kpar
  blk_ext! [iblk, V, idx6]

theorem kblk7 (k : Fin 256) : iblk m c 7 t (ix2 0 k) = (kpar m c).b2 k := by
  unfold kpar
  blk_ext! [iblk, V, idx7]

/-! ## The layer of the blocks is the layer of the arguments -/

theorem kimg_eq : img (iblk m c 1 t) = (kpar m c).x (imgOf t) := by
  funext s k
  exact kblk1 m c t s k

theorem khE_eq : khE (iblk m c 0 t) (iblk m c 1 t) (iblk m c 2 t) (iblk m c 3 t) (iblk m c 4 t) = hE (kpar m c).xs ((kpar m c).x (imgOf t)) (kpar m c).w1 (kpar m c).w1s (kpar m c).b1 := by
  unfold khE
  simp only [kimg_eq, kblk0, kblk2, kblk3, kblk4]

theorem khC_eq (j : Fin 16) : khC (iblk m c 0 t) (iblk m c 1 t) (iblk m c 2 t) (iblk m c 3 t) (iblk m c 4 t) j = hC (kpar m c).xs ((kpar m c).x (imgOf t)) (kpar m c).w1 (kpar m c).w1s (kpar m c).b1 j := by
  unfold khC
  simp only [kimg_eq, kblk0, kblk2, kblk3, kblk4]

theorem kgate_eq (k : Fin 256) : kgate (iblk m c 0 t) (iblk m c 1 t) (iblk m c 2 t) (iblk m c 3 t) (iblk m c 4 t) (iblk m c 5 t) (iblk m c 6 t) (iblk m c 7 t) k = gate (kpar m c).xs ((kpar m c).x (imgOf t)) (kpar m c).w1 (kpar m c).w1s (kpar m c).b1 (kpar m c).w2 (kpar m c).w2s (kpar m c).b2 k := by
  unfold kgate
  simp only [kimg_eq, kblk0, kblk2, kblk3, kblk4, kblk5, kblk6, kblk7]

theorem kyE_eq (k : Fin 256) : kyE (iblk m c 0 t) (iblk m c 1 t) (iblk m c 2 t) (iblk m c 3 t) (iblk m c 4 t) (iblk m c 5 t) (iblk m c 6 t) (iblk m c 7 t) k = yE (kpar m c).xs ((kpar m c).x (imgOf t)) (kpar m c).w1 (kpar m c).w1s (kpar m c).b1 (kpar m c).w2 (kpar m c).w2s (kpar m c).b2 k := by
  unfold kyE
  simp only [kimg_eq, kblk0, kblk2, kblk3, kblk4, kblk5, kblk6, kblk7]

/-! ## What each point computes -/

theorem yB_apply (s : Fin 3136) (k : Fin 256) : yB (F := Ideal) m c t (ix3 0 s k) = yC (kpar m c).xs ((kpar m c).x (imgOf t)) (kpar m c).w1 (kpar m c).w1s (kpar m c).b1 (kpar m c).w2 (kpar m c).w2s (kpar m c).b2 s k := by
  unfold yB
  rw [yOut_apply, kimg_eq, kblk0, kgate_eq, kyE_eq]
  rfl

theorem ysR_apply (k : Fin 256) : ysR (F := Ideal) m c t (ix2 0 k) = p2 (yE (kpar m c).xs ((kpar m c).x (imgOf t)) (kpar m c).w1 (kpar m c).w1s (kpar m c).b1 (kpar m c).w2 (kpar m c).w2s (kpar m c).b2 k) := by
  unfold ysR
  rw [ysRow_apply, kyE_eq]

theorem gateR_apply (k : Fin 256) : gateR (F := Ideal) m c t (ix2 0 k) = gate (kpar m c).xs ((kpar m c).x (imgOf t)) (kpar m c).w1 (kpar m c).w1s (kpar m c).b1 (kpar m c).w2 (kpar m c).w2s (kpar m c).b2 k := by
  unfold gateR
  rw [gateRow_apply, kgate_eq]

theorem pR_apply (k : Fin 256) : pR (F := Ideal) m c t (ix2 0 k) = pC (kpar m c).xs ((kpar m c).x (imgOf t)) k := by
  unfold pR
  rw [pRow_apply, kimg_eq, kblk0]

theorem psR_apply (l : Fin 128) : psR (F := Ideal) m c t (ix2 0 l) = p2 (pE (kpar m c).xs ((kpar m c).x (imgOf t))) := by
  unfold psR
  rw [psRow_apply, kimg_eq, kblk0]

theorem hR_apply (j : Fin 16) : hR (F := Ideal) m c t (ix2 0 j) = hC (kpar m c).xs ((kpar m c).x (imgOf t)) (kpar m c).w1 (kpar m c).w1s (kpar m c).b1 j := by
  unfold hR
  rw [hRow_apply, khC_eq]

theorem hsR_apply (l : Fin 128) : hsR (F := Ideal) m c t (ix2 0 l) = p2 (hE (kpar m c).xs ((kpar m c).x (imgOf t)) (kpar m c).w1 (kpar m c).w1s (kpar m c).b1) := by
  unfold hsR
  rw [hsRow_apply, khE_eq]

end Cert.Hand

end
-- ==== Proof.KDiag.lean ====
/- The two tables of scales: the sum down a column of a table, off the diagonal zeroed, is the diagonal's element. -/
module

public import proofs.«01_k».proof.Proof.Gen.KernelIdeal.Skeleton
public import Idealize.ShloMosaic.Lib.Pointwise

@[expose] public section

set_option maxRecDepth 16384

noncomputable section

namespace Cert.Hand

open Cert.KernelIdeal Cert.KernelIdeal.Gen
open Idealize.ShloMosaic

theorem diag_eq : ∀ x l : Fin 64, IntOp.cmpi .eq (BitVec.ofNat 32 x.val) (BitVec.ofNat 32 l.val) = if x = l then 1#1 else 0#1 := by decide +kernel

/-- A sum over a table's column with everything off the diagonal zeroed. -/
theorem sum_diag (f : Fin 64 → EReal) (l : Fin 64) :
    ∑ x : Fin 64, Scalar.select (IntOp.cmpi .eq (BitVec.ofNat 32 x.val) (BitVec.ofNat 32 l.val)) (f x) (0 : EReal) = f l := by
  rw [Finset.sum_eq_single l]
  · rw [diag_eq, if_pos rfl]; rfl
  · intro x _ hx
    rw [diag_eq, if_neg hx]; rfl
  · intro h; exact absurd (Finset.mem_univ l) h

theorem pay5_apply (e : Vec Ideal S64x128 .f32) (z : Fin 1) (l : Fin 64) : k0_pay5 (F := Ideal) e (ix2 z l) = e (ix2 l ⟨l.val, by omega⟩) := by
  pointwise [k0_pay5, k0_pay4]
  exact sum_diag (fun x => e (ix2 x ⟨l.val, by omega⟩)) l

theorem pay6_apply (e : Vec Ideal S64x128 .f32) (z : Fin 1) (l : Fin 64) : k0_pay6 (F := Ideal) e (ix2 z l) = e (ix2 l ⟨l.val, by omega⟩) := by
  pointwise [k0_pay6, k0_pay4]
  exact sum_diag (fun x => e (ix2 x ⟨l.val, by omega⟩)) l

end Cert.Hand

end
-- ==== Proof.KRes.lean ====
/- The kernel's seven results, out of its arguments. -/
module

public import proofs.«01_k».proof.Proof.KBlk
public import proofs.«01_k».proof.Proof.KDiag
public import proofs.«01_k».proof.Proof.KFrame
public import Idealize.ShloMosaic.Lib.Pipeline.ArrRel

@[expose] public section

set_option maxRecDepth 16384

noncomputable section

namespace Cert.Hand

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- The last point. -/
def tl : Fin cfg0.N := ⟨63, by decide⟩

/-- A full table at row `r` and column `k` is row `k`'s value at point `r`. -/
theorem tab_at {α : Type} {W : ℕ} {v : Fin cfg0.N → (⟨2, ![1, W]⟩ : Shape).Idx → α} {X : (⟨2, ![64, W]⟩ : Shape).Idx → α} (h : TabOK v 64 X)
    (r : Fin 64) (k : Fin W) : X (ix2 r k) = v ⟨r.val, lt_of_lt_of_eq r.isLt N_0.symm⟩ (ix2 0 k) :=
  h ⟨r.val, lt_of_lt_of_eq r.isLt N_0.symm⟩ r.isLt (ix2 r k) (ix2 0 k) rfl rfl

/-- Point `t` writes image `t`. -/
theorem idx8 : ∀ t : Fin cfg0.N, win0_8.index t 0 = t.val ∧ win0_8.index t 1 = 0 ∧ win0_8.index t 2 = 0 := by decide +kernel

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

theorem karr8 : ((rdat m c).withAfter after).arrAt 8 cfg0.N = (kpar m c).y := by
  refine ((rdat m c).withAfter after).arrAt_eq_of_covers 8 _ (by decide +kernel) fun t hf y => ?_
  blk_simp
  obtain ⟨Y, _, e⟩ := hL 8 t hf
  have e' : after 8 t = yB m c t := e
  rw [Pipeline.RDat.withAfter_after, e']
  idx_vars y
  have h0 : y0 = 0 := Subsingleton.elim _ _
  subst h0
  refine (yB_apply ..).trans (congrArg (kpar m c).y (a₁ := ix3 (imgOf t) y1 y2) ?_)
  blk_ext [(idx8 t).1, (idx8 t).2.1, (idx8 t).2.2, imgOf]

theorem karr9 : ((rdat m c).withAfter after).arrAt 9 cfg0.N = (kpar m c).ys := by
  refine ((rdat m c).withAfter after).arrAt_eq_of_after_last 9 tl (by decide +kernel) _ fun j => ?_
  blk_simp
  obtain ⟨Y, hY, e⟩ := hL 9 tl ((flush0_9 tl).mpr rfl)
  have e' : TabOK (ysR m c) 64 (after 9 tl) := e (finds_9 m c 63 tl rfl Y hY)
  rw [Pipeline.RDat.withAfter_after]
  idx_vars j
  exact (tab_at e' _ _).trans (ysR_apply ..)

theorem karr10 : ((rdat m c).withAfter after).arrAt 10 cfg0.N = (kpar m c).g := by
  refine ((rdat m c).withAfter after).arrAt_eq_of_after_last 10 tl (by decide +kernel) _ fun j => ?_
  blk_simp
  obtain ⟨Y, hY, e⟩ := hL 10 tl ((flush0_10 tl).mpr rfl)
  have e' : TabOK (gateR m c) 64 (after 10 tl) := e (finds_10 m c 63 tl rfl Y hY)
  rw [Pipeline.RDat.withAfter_after]
  idx_vars j
  exact (tab_at e' _ _).trans (gateR_apply ..)

theorem karr11 : ((rdat m c).withAfter after).arrAt 11 cfg0.N = (kpar m c).p := by
  refine ((rdat m c).withAfter after).arrAt_eq_of_after_last 11 tl (by decide +kernel) _ fun j => ?_
  blk_simp
  obtain ⟨Y, _, e⟩ := hL 11 tl ((flush0_11 tl).mpr rfl)
  obtain ⟨X, hX, e'⟩ : ∃ X, TabOK (pR m c) 64 X ∧ after 11 tl = k0_pay2 X := e rfl
  rw [Pipeline.RDat.withAfter_after, e']
  idx_vars j
  exact (tab_at hX _ _).trans (pR_apply ..)

theorem karr12 : ((rdat m c).withAfter after).arrAt 12 cfg0.N = (kpar m c).ps := by
  refine ((rdat m c).withAfter after).arrAt_eq_of_after_last 12 tl (by decide +kernel) _ fun j => ?_
  blk_simp
  obtain ⟨Y, _, e⟩ := hL 12 tl ((flush0_12 tl).mpr rfl)
  obtain ⟨X, hX, e'⟩ : ∃ X, TabOK (psR m c) 64 X ∧ after 12 tl = k0_pay5 X := e rfl
  rw [Pipeline.RDat.withAfter_after, e']
  idx_vars j
  exact (pay5_apply _ _ _).trans ((tab_at hX _ _).trans (psR_apply ..))

theorem karr13 : ((rdat m c).withAfter after).arrAt 13 cfg0.N = (kpar m c).h := by
  refine ((rdat m c).withAfter after).arrAt_eq_of_after_last 13 tl (by decide +kernel) _ fun j => ?_
  blk_simp
  obtain ⟨Y, _, e⟩ := hL 13 tl ((flush0_13 tl).mpr rfl)
  obtain ⟨X, hX, e'⟩ : ∃ X, TabOK (hR m c) 64 X ∧ after 13 tl = k0_pay3 X := e rfl
  rw [Pipeline.RDat.withAfter_after, e']
  idx_vars j
  exact (tab_at hX _ _).trans (hR_apply ..)

theorem karr14 : ((rdat m c).withAfter after).arrAt 14 cfg0.N = (kpar m c).hs := by
  refine ((rdat m c).withAfter after).arrAt_eq_of_after_last 14 tl (by decide +kernel) _ fun j => ?_
  blk_simp
  obtain ⟨Y, _, e⟩ := hL 14 tl ((flush0_14 tl).mpr rfl)
  obtain ⟨X, hX, e'⟩ : ∃ X, TabOK (hsR m c) 64 X ∧ after 14 tl = k0_pay6 X := e rfl
  rw [Pipeline.RDat.withAfter_after, e']
  idx_vars j
  exact (pay6_apply _ _ _).trans ((tab_at hX _ _).trans (hsR_apply ..))

end Cert.Hand

end
-- ==== Proof.Final.lean ====
/- The value claim: from the same arguments both programs end with the same seven results. -/
module

public import proofs.«01_k».proof.Proof.Claims
public import proofs.«01_k».proof.Proof.RefRes
public import proofs.«01_k».proof.Proof.KRes

@[expose] public section

set_option maxRecDepth 16384

noncomputable section

namespace Cert.Hand

open Idealize.ShloMosaic Idealize.ShloMosaic.TcCoe Idealize.SL.Sem

attribute [local instance] Cert.Kernel.Gen.facts Cert.KernelIdeal.Gen.facts Cert.ReferenceIdeal.Gen.facts Cert.Reference.Gen.facts

/-- Arguments that agree are the same plain functions. -/
theorem par_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Ref.par m' c = kpar m c := by
  obtain ⟨h0, h1, h2, h3, h4, h5, h6, h7⟩ := h
  unfold Ref.par kpar
  rw [h0, h1, h2, h3, h4, h5, h6, h7]
  rfl

theorem algebraic : Cert.algebraic_KernelIdeal_ReferenceIdeal := by
  intro m g m' g' _ hargs
  refine ⟨fun c => (kpar m c).y, fun c => (kpar m c).ys, fun c => (kpar m c).g, fun c => (kpar m c).p, fun c => (kpar m c).ps,
    fun c => (kpar m c).h, fun c => (kpar m c).hs, ?_, ?_⟩
  · refine (θ_run _ _ _).mono (fun r hr c => ?_) (Cert.KernelIdeal.Hand.run_main_quiescent m g)
    obtain ⟨after, hL, hA⟩ := Pipeline.RDat.FramePost.exists_exact hr.1 c
    exact ⟨(hA 8).trans (karr8 m c after hL), (hA 9).trans (karr9 m c after hL), (hA 10).trans (karr10 m c after hL),
      (hA 11).trans (karr11 m c after hL), (hA 12).trans (karr12 m c after hL), (hA 13).trans (karr13 m c after hL),
      (hA 14).trans (karr14 m c after hL), Cert.KernelIdeal.Hand.args_of m r hr c⟩
  · refine (θ_run _ _ _).mono (fun r hr c => ?_) (Cert.ReferenceIdeal.Gen.run_main m' g')
    have e := par_eq m m' c (hargs c)
    have hw := (hr c).1
    exact ⟨(hw 8).trans ((Ref.arr8 m' c).trans (congrArg Params.y e)), (hw 9).trans ((Ref.arr9 m' c).trans (congrArg Params.ys e)),
      (hw 10).trans ((Ref.arr10 m' c).trans (congrArg Params.g e)), (hw 11).trans ((Ref.arr11 m' c).trans (congrArg Params.p e)),
      (hw 12).trans ((Ref.arr12 m' c).trans (congrArg Params.ps e)), (hw 13).trans ((Ref.arr13 m' c).trans (congrArg Params.h e)),
      (hw 14).trans ((Ref.arr14 m' c).trans (congrArg Params.hs e)), Ref.args_of m' c r hr⟩

end Cert.Hand

end
-- ==== Proof.lean ====
module

public import proofs.«01_k».proof.Proof.Claims
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Reference.Gen.facts,
    Cert.Hand.frame_Kernel, Cert.Hand.frame_KernelIdeal, Cert.Hand.frame_ReferenceIdeal, Cert.Hand.frame_Reference,
    Cert.Hand.preserves_Kernel, Cert.Hand.preserves_Reference,
    Cert.Hand.algebraic⟩

end Cert.Proof

end
